-- ==== Defs.lean ====
def Pre_Kernel [hPre_z_in_range : Cert.Pre_z_in_range.Facts] (m : (ℓ : Loc Cert.Kernel.nD Cert.Kernel.τ Cert.Kernel.sig) → Buf (Elt Bits) ℓ) : Prop :=
  ∀ c : Dev Cert.Kernel.nD,
    (Cert.Pre_z_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_z_in_range : Cert.Pre_z_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_z_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_z_in_range_sd_nonzero [hPre_z_in_range_sd_nonzero : Cert.Pre_z_in_range_sd_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_z_in_range_sd_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_z_in_range_sd_nonzero [hPre_z_in_range_sd_nonzero : Cert.Pre_z_in_range_sd_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_z_in_range_sd_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_z_in_range : Cert.Pre_z_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_z_in_range : Cert.Pre_z_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_z_in_range_sd_nonzero [hKernelIdeal : Cert.KernelIdeal.Facts] [hPre_z_in_range_sd_nonzero : Cert.Pre_z_in_range_sd_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_z_in_range_sd_nonzero m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_z_in_range_sd_nonzero [hReferenceIdeal : Cert.ReferenceIdeal.Facts] [hPre_z_in_range_sd_nonzero : Cert.Pre_z_in_range_sd_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_z_in_range_sd_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "half_log_2pi" .f32 0x3F6B3F8E#32 (((1 / 2) * (Real.log (13176795 / 2097152)) : ℝ) : EReal)

def algebraic_KernelIdeal_ReferenceIdeal_pre_z_in_range_sd_nonzero [hKernelIdeal : Cert.KernelIdeal.Facts] [hReferenceIdeal : Cert.ReferenceIdeal.Facts] [hPre_z_in_range_sd_nonzero : Cert.Pre_z_in_range_sd_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_z_in_range_sd_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_z_in_range : Cert.Pre_z_in_range.Facts) (hPre_z_in_range_sd_nonzero : Cert.Pre_z_in_range_sd_nonzero.Facts),
    quiescent_Kernel (hKernel := hKernel) (hPre_z_in_range := hPre_z_in_range)
    ∧ quiescent_KernelIdeal (hKernelIdeal := hKernelIdeal) (hPre_z_in_range := hPre_z_in_range)
    ∧ quiescent_KernelIdeal_pre_z_in_range_sd_nonzero (hKernelIdeal := hKernelIdeal) (hPre_z_in_range_sd_nonzero := hPre_z_in_range_sd_nonzero)
    ∧ quiescent_ReferenceIdeal (hReferenceIdeal := hReferenceIdeal)
    ∧ quiescent_ReferenceIdeal_pre_z_in_range_sd_nonzero (hReferenceIdeal := hReferenceIdeal) (hPre_z_in_range_sd_nonzero := hPre_z_in_range_sd_nonzero)
    ∧ preserves_Kernel_KernelIdeal
    ∧ algebraic_KernelIdeal_ReferenceIdeal_pre_z_in_range_sd_nonzero (hKernelIdeal := hKernelIdeal) (hReferenceIdeal := hReferenceIdeal) (hPre_z_in_range_sd_nonzero := hPre_z_in_range_sd_nonzero)
-- ==== Pre_z_in_range.lean ====
abbrev S4194304 : Shape := ⟨1, ![4194304]⟩
abbrev S16 : Shape := ⟨1, ![16]⟩
abbrev S_ : Shape := ⟨0, ![]⟩

class Facts : Prop where
  bcast_S_S4194304 : S_.BroadcastsInDim S4194304 (![] : Fin 0 → Fin S4194304.rank)
  reducesTo_S4194304_S_d0 : S4194304.ReducesTo [0] S_
  h_S_ : 0 < S_.numel

variable [Facts]

def fn {F : FTy → Type} [FloatOps F] (main_arg0 : IVec S4194304 32) (main_arg1 : FVec F S4194304 .f32) (main_arg2 : FVec F S16 .f32) (main_arg3 : FVec F S16 .f32) (main_arg4 : FVec F S16 .f32) : IVec S_ 1 :=
  let main_c : IVec S_ 32 := constantI S_ 32 0#32
  let main_v0 : IVec S4194304 32 := broadcastInDim S4194304 ![] bcast_S_S4194304 main_c
  let main_v1 : IVec S4194304 1 := cmpi .sge main_arg0 main_v0
  let main_c_0 : IVec S_ 32 := constantI S_ 32 16#32
  let main_v2 : IVec S4194304 32 := broadcastInDim S4194304 ![] bcast_S_S4194304 main_c_0
  let main_v3 : IVec S4194304 1 := cmpi .slt main_arg0 main_v2
  let main_v4 : IVec S4194304 1 := andi main_v1 main_v3
  let main_c_1 : IVec S_ 1 := constantI S_ 1 1#1
  let main_v5 : IVec S_ 1 := (fun x v => Host.reduce IntOp.andi x v reducesTo_S4194304_S_d0 h_S_) main_v4 main_c_1
  main_v5
-- ==== Pre_z_in_range_sd_nonzero.lean ====
abbrev S4194304 : Shape := ⟨1, ![4194304]⟩
abbrev S16 : Shape := ⟨1, ![16]⟩
abbrev S_ : Shape := ⟨0, ![]⟩

class Facts : Prop where
  bcast_S_S4194304 : S_.BroadcastsInDim S4194304 (![] : Fin 0 → Fin S4194304.rank)
  reducesTo_S4194304_S_d0 : S4194304.ReducesTo [0] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : IVec S4194304 32) (main_arg1 : FVec F S4194304 .f32) (main_arg2 : FVec F S16 .f32) (main_arg3 : FVec F S16 .f32) (main_arg4 : FVec F S16 .f32) : IVec S_ 1 :=
  let main_c : IVec S_ 32 := constantI S_ 32 0#32
  let main_v0 : IVec S4194304 32 := broadcastInDim S4194304 ![] bcast_S_S4194304 main_c
  let main_v1 : IVec S4194304 1 := cmpi .sge main_arg0 main_v0
  let main_c_0 : IVec S_ 32 := constantI S_ 32 16#32
  let main_v2 : IVec S4194304 32 := broadcastInDim S4194304 ![] bcast_S_S4194304 main_c_0
  let main_v3 : IVec S4194304 1 := cmpi .slt main_arg0 main_v2
  let main_v4 : IVec S4194304 1 := andi main_v1 main_v3
  let main_c_1 : IVec S_ 1 := constantI S_ 1 1#1
  let main_v5 : IVec S_ 1 := (fun x v => Host.reduce IntOp.andi x v reducesTo_S4194304_S_d0 h_S_) main_v4 main_c_1
  let main_cst : FVec F S_ .f32 := constant S_ .f32 0x00000000#32
  let main_v6 : FVec F S16 .f32 := broadcastInDim S16 ![] bcast_S_S16 main_cst
  let main_v7 : IVec S16 1 := cmpf .une main_arg4 main_v6
  let main_c_2 : IVec S_ 1 := constantI S_ 1 1#1
  let main_v8 : IVec S_ 1 := (fun x v => Host.reduce IntOp.andi x v reducesTo_S16_S_d0 h_S_) main_v7 main_c_2
  let main_v9 : IVec S_ 1 := andi main_v5 main_v8
  main_v9
-- ==== Kernel.lean ====
abbrev S4194304 : Shape := ⟨1, ![4194304]⟩
abbrev S16 : Shape := ⟨1, ![16]⟩
abbrev S8192 : Shape := ⟨1, ![8192]⟩
abbrev S_ : Shape := ⟨0, ![]⟩

abbrev nBuf : Table → Nat
  | .hbm => 6
  | .local .scVector .vmem => 15
  | _ => 0

abbrev bufTy : (tb : Table) → Fin (nBuf tb) → BufTy
  | .hbm, ⟨0, _⟩ => ⟨S4194304, .i32⟩
  | .hbm, ⟨1, _⟩ => ⟨S4194304, .f32⟩
  | .hbm, ⟨2, _⟩ => ⟨S16, .f32⟩
  | .hbm, ⟨3, _⟩ => ⟨S16, .f32⟩
  | .hbm, ⟨4, _⟩ => ⟨S16, .f32⟩
  | .hbm, ⟨5, _⟩ => ⟨S4194304, .f32⟩
  | .local .scVector .vmem, ⟨0, _⟩ => ⟨S16, .f32⟩
  | .local .scVector .vmem, ⟨1, _⟩ => ⟨S16, .f32⟩
  | .local .scVector .vmem, ⟨2, _⟩ => ⟨S16, .f32⟩
  | .local .scVector .vmem, ⟨3, _⟩ => ⟨S8192, .i32⟩
  | .local .scVector .vmem, ⟨4, _⟩ => ⟨S8192, .i32⟩
  | .local .scVector .vmem, ⟨5, _⟩ => ⟨S8192, .i32⟩
  | .local .scVector .vmem, ⟨6, _⟩ => ⟨S8192, .i32⟩
  | .local .scVector .vmem, ⟨7, _⟩ => ⟨S8192, .f32⟩
  | .local .scVector .vmem, ⟨8, _⟩ => ⟨S8192, .f32⟩
  | .local .scVector .vmem, ⟨9, _⟩ => ⟨S8192, .f32⟩
  | .local .scVector .vmem, ⟨10, _⟩ => ⟨S8192, .f32⟩
  | .local .scVector .vmem, ⟨11, _⟩ => ⟨S8192, .f32⟩
  | .local .scVector .vmem, ⟨12, _⟩ => ⟨S8192, .f32⟩
  | .local .scVector .vmem, ⟨13, _⟩ => ⟨S8192, .f32⟩
  | .local .scVector .vmem, ⟨14, _⟩ => ⟨S8192, .f32⟩
  | _, _ => ⟨S4194304, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_v0_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev cc0_scratch14 : Ref sig .scVector := ⟨.vmem, 14, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v2 : BitVec 32 := Scalar.muli v1 c131072_i32
  let v3 : BitVec 32 := Scalar.addi v2 c0_i32
  ![v3.toNat]
@[reducible] def k0_t1_loop : Scf.Loop 32 :=
  let c0_i32_4 : BitVec 32 := 0#32
  let c4_i32 : BitVec 32 := 4#32
  let v34 : BitVec 32 := Scalar.addi c0_i32_4 c4_i32
  let c1_i32 : BitVec 32 := 1#32
  ⟨c0_i32_4, v34, c1_i32⟩
def k0_off2 (i : grid0.Coords) (k0_t1 : Fin k0_t1_loop.trips) (c0_i32_8 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v2 : BitVec 32 := Scalar.muli v1 c131072_i32
  let c0_i32_7 : BitVec 32 := 0#32
  let c0_i32_4 : BitVec 32 := 0#32
  let c1_i32 : BitVec 32 := 1#32
  let arg31 : BitVec 32 := Scf.iv c0_i32_4 c1_i32 k0_t1
  let c4_i32_6 : BitVec 32 := 4#32
  let v43 : BitVec 32 := Scalar.muli arg31 c4_i32_6
  let v44 : BitVec 32 := Scalar.addi c0_i32_7 v43
  let v45 : BitVec 32 := Scalar.addi v44 c0_i32_8
  let c8192_i32_9 : BitVec 32 := 8192#32
  let v46 : BitVec 32 := Scalar.muli v45 c8192_i32_9
  let v47 : BitVec 32 := Scalar.addi v2 v46
  ![v47.toNat]
def k0_cond1 (k0_t1 : Fin k0_t1_loop.trips) : BitVec 1 :=
  let c0_i32_7 : BitVec 32 := 0#32
  let c0_i32_4 : BitVec 32 := 0#32
  let c1_i32 : BitVec 32 := 1#32
  let arg31 : BitVec 32 := Scf.iv c0_i32_4 c1_i32 k0_t1
  let c4_i32_6 : BitVec 32 := 4#32
  let v43 : BitVec 32 := Scalar.muli arg31 c4_i32_6
  let v44 : BitVec 32 := Scalar.addi c0_i32_7 v43
  let c0_i32_8 : BitVec 32 := 0#32
  let v45 : BitVec 32 := Scalar.addi v44 c0_i32_8
  let c4_i32_10 : BitVec 32 := 4#32
  let v52 : BitVec 1 := Scalar.cmpi .sge v45 c4_i32_10
  let v53 : BitVec 32 := Scalar.extui v52
  let c0_i32_11 : BitVec 32 := 0#32
  let v54 : BitVec 1 := Scalar.cmpi .ne v53 c0_i32_11
  v54

def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v2 : BitVec 32 := Scalar.muli v1 c131072_i32
  ![v2.toNat]
@[reducible] def k0_t2_loop : Scf.Loop 32 :=
  let c0_i32_12 : BitVec 32 := 0#32
  let c512_i32 : BitVec 32 := 512#32
  let v55 : BitVec 32 := Scalar.addi c0_i32_12 c512_i32
  let c1_i32_13 : BitVec 32 := 1#32
  ⟨c0_i32_12, v55, c1_i32_13⟩
def k0_off4 (k0_t2 : Fin k0_t2_loop.trips) : Fin 1 → Nat :=
  let c0_i32_50 : BitVec 32 := 0#32
  let c0_i32_12 : BitVec 32 := 0#32
  let c1_i32_13 : BitVec 32 := 1#32
  let arg32 : BitVec 32 := Scf.iv c0_i32_12 c1_i32_13 k0_t2
  let c16_i32_49 : BitVec 32 := 16#32
  let v113 : BitVec 32 := Scalar.muli arg32 c16_i32_49
  let v114 : BitVec 32 := Scalar.addi c0_i32_50 v113
  let v115 : Index := Scalar.indexCast v114
  ![v115.toNat]

def k0_chk1 (v116 : IVec S16 32) : Prop :=
  (∀ a x, ((![v116] : Fin 1 → IVec S16 32) a x).toNat < S16.size a) ∧
  (∀ a x, ((![v116] : Fin 1 → IVec S16 32) a x).toNat < S16.size a) ∧
  (∀ a x, ((![v116] : Fin 1 → IVec S16 32) a x).toNat < S16.size a)
theorem k0_idx1_inb : ∀ (v116 : IVec S16 32) (k0_hw1 : k0_chk1 v116), ∀ a x, ((![v116] : Fin 1 → IVec S16 32) a x).toNat < S16.size a := fun v116 k0_hw1 => k0_hw1.1
theorem k0_idx2_inb : ∀ (v116 : IVec S16 32) (k0_hw1 : k0_chk1 v116), ∀ a x, ((![v116] : Fin 1 → IVec S16 32) a x).toNat < S16.size a := fun v116 k0_hw1 => k0_hw1.2.1
theorem k0_idx3_inb : ∀ (v116 : IVec S16 32) (k0_hw1 : k0_chk1 v116), ∀ a x, ((![v116] : Fin 1 → IVec S16 32) a x).toNat < S16.size a := fun v116 k0_hw1 => k0_hw1.2.2
def k0_off5 (k0_t2 : Fin k0_t2_loop.trips) : Fin 1 → Nat :=
  let c0_i32_50 : BitVec 32 := 0#32
  let c0_i32_12 : BitVec 32 := 0#32
  let c1_i32_13 : BitVec 32 := 1#32
  let arg32 : BitVec 32 := Scf.iv c0_i32_12 c1_i32_13 k0_t2
  let c16_i32_49 : BitVec 32 := 16#32
  let v113 : BitVec 32 := Scalar.muli arg32 c16_i32_49
  let v114 : BitVec 32 := Scalar.addi c0_i32_50 v113
  let v128 : Index := Scalar.indexCast v114
  ![v128.toNat]
def k0_cond2 (k0_t1 : Fin k0_t1_loop.trips) : BitVec 1 :=
  let c0_i32_7 : BitVec 32 := 0#32
  let c0_i32_4 : BitVec 32 := 0#32
  let c1_i32 : BitVec 32 := 1#32
  let arg31 : BitVec 32 := Scf.iv c0_i32_4 c1_i32 k0_t1
  let c4_i32_6 : BitVec 32 := 4#32
  let v43 : BitVec 32 := Scalar.muli arg31 c4_i32_6
  let v44 : BitVec 32 := Scalar.addi c0_i32_7 v43
  let c0_i32_8 : BitVec 32 := 0#32
  let v45 : BitVec 32 := Scalar.addi v44 c0_i32_8
  let c4_i32_15 : BitVec 32 := 4#32
  let v58 : BitVec 32 := Scalar.addi v45 c4_i32_15
  let c16_i32 : BitVec 32 := 16#32
  let v59 : BitVec 1 := Scalar.cmpi .slt v58 c16_i32
  let v60 : BitVec 32 := Scalar.extui v59
  let c0_i32_16 : BitVec 32 := 0#32
  let v61 : BitVec 1 := Scalar.cmpi .ne v60 c0_i32_16
  v61

def k0_off6 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v2 : BitVec 32 := Scalar.muli v1 c131072_i32
  let c0_i32_7 : BitVec 32 := 0#32
  let c0_i32_4 : BitVec 32 := 0#32
  let c1_i32 : BitVec 32 := 1#32
  let arg31 : BitVec 32 := Scf.iv c0_i32_4 c1_i32 k0_t1
  let c4_i32_6 : BitVec 32 := 4#32
  let v43 : BitVec 32 := Scalar.muli arg31 c4_i32_6
  let v44 : BitVec 32 := Scalar.addi c0_i32_7 v43
  let c0_i32_8 : BitVec 32 := 0#32
  let v45 : BitVec 32 := Scalar.addi v44 c0_i32_8
  let c4_i32_49 : BitVec 32 := 4#32
  let v113 : BitVec 32 := Scalar.addi v45 c4_i32_49
  let c8192_i32_50 : BitVec 32 := 8192#32
  let v114 : BitVec 32 := Scalar.muli v113 c8192_i32_50
  let v115 : BitVec 32 := Scalar.addi v2 v114
  ![v115.toNat]
def k0_cond3 (k0_t1 : Fin k0_t1_loop.trips) : BitVec 1 :=
  let c0_i32_7 : BitVec 32 := 0#32
  let c0_i32_4 : BitVec 32 := 0#32
  let c1_i32 : BitVec 32 := 1#32
  let arg31 : BitVec 32 := Scf.iv c0_i32_4 c1_i32 k0_t1
  let c4_i32_6 : BitVec 32 := 4#32
  let v43 : BitVec 32 := Scalar.muli arg31 c4_i32_6
  let v44 : BitVec 32 := Scalar.addi c0_i32_7 v43
  let c1_i32_17 : BitVec 32 := 1#32
  let v62 : BitVec 32 := Scalar.addi v44 c1_i32_17
  let c4_i32_19 : BitVec 32 := 4#32
  let v69 : BitVec 1 := Scalar.cmpi .sge v62 c4_i32_19
  let v70 : BitVec 32 := Scalar.extui v69
  let c0_i32_20 : BitVec 32 := 0#32
  let v71 : BitVec 1 := Scalar.cmpi .ne v70 c0_i32_20
  v71

def k0_off7 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v2 : BitVec 32 := Scalar.muli v1 c131072_i32
  ![v2.toNat]
@[reducible] def k0_t3_loop : Scf.Loop 32 :=
  let c0_i32_21 : BitVec 32 := 0#32
  let c512_i32_22 : BitVec 32 := 512#32
  let v72 : BitVec 32 := Scalar.addi c0_i32_21 c512_i32_22
  let c1_i32_23 : BitVec 32 := 1#32
  ⟨c0_i32_21, v72, c1_i32_23⟩
def k0_off8 (k0_t3 : Fin k0_t3_loop.trips) : Fin 1 → Nat :=
  let c0_i32_50 : BitVec 32 := 0#32
  let c0_i32_21 : BitVec 32 := 0#32
  let c1_i32_23 : BitVec 32 := 1#32
  let arg32 : BitVec 32 := Scf.iv c0_i32_21 c1_i32_23 k0_t3
  let c16_i32_49 : BitVec 32 := 16#32
  let v113 : BitVec 32 := Scalar.muli arg32 c16_i32_49
  let v114 : BitVec 32 := Scalar.addi c0_i32_50 v113
  let v115 : Index := Scalar.indexCast v114
  ![v115.toNat]

def k0_chk2 (v116 : IVec S16 32) : Prop :=
  (∀ a x, ((![v116] : Fin 1 → IVec S16 32) a x).toNat < S16.size a) ∧
  (∀ a x, ((![v116] : Fin 1 → IVec S16 32) a x).toNat < S16.size a) ∧
  (∀ a x, ((![v116] : Fin 1 → IVec S16 32) a x).toNat < S16.size a)
theorem k0_idx4_inb : ∀ (v116 : IVec S16 32) (k0_hw2 : k0_chk2 v116), ∀ a x, ((![v116] : Fin 1 → IVec S16 32) a x).toNat < S16.size a := fun v116 k0_hw2 => k0_hw2.1
theorem k0_idx5_inb : ∀ (v116 : IVec S16 32) (k0_hw2 : k0_chk2 v116), ∀ a x, ((![v116] : Fin 1 → IVec S16 32) a x).toNat < S16.size a := fun v116 k0_hw2 => k0_hw2.2.1
theorem k0_idx6_inb : ∀ (v116 : IVec S16 32) (k0_hw2 : k0_chk2 v116), ∀ a x, ((![v116] : Fin 1 → IVec S16 32) a x).toNat < S16.size a := fun v116 k0_hw2 => k0_hw2.2.2
def k0_off9 (k0_t3 : Fin k0_t3_loop.trips) : Fin 1 → Nat :=
  let c0_i32_50 : BitVec 32 := 0#32
  let c0_i32_21 : BitVec 32 := 0#32
  let c1_i32_23 : BitVec 32 := 1#32
  let arg32 : BitVec 32 := Scf.iv c0_i32_21 c1_i32_23 k0_t3
  let c16_i32_49 : BitVec 32 := 16#32
  let v113 : BitVec 32 := Scalar.muli arg32 c16_i32_49
  let v114 : BitVec 32 := Scalar.addi c0_i32_50 v113
  let v128 : Index := Scalar.indexCast v114
  ![v128.toNat]
def k0_cond4 (k0_t1 : Fin k0_t1_loop.trips) : BitVec 1 :=
  let c0_i32_7 : BitVec 32 := 0#32
  let c0_i32_4 : BitVec 32 := 0#32
  let c1_i32 : BitVec 32 := 1#32
  let arg31 : BitVec 32 := Scf.iv c0_i32_4 c1_i32 k0_t1
  let c4_i32_6 : BitVec 32 := 4#32
  let v43 : BitVec 32 := Scalar.muli arg31 c4_i32_6
  let v44 : BitVec 32 := Scalar.addi c0_i32_7 v43
  let c1_i32_17 : BitVec 32 := 1#32
  let v62 : BitVec 32 := Scalar.addi v44 c1_i32_17
  let c4_i32_25 : BitVec 32 := 4#32
  let v75 : BitVec 32 := Scalar.addi v62 c4_i32_25
  let c16_i32_26 : BitVec 32 := 16#32
  let v76 : BitVec 1 := Scalar.cmpi .slt v75 c16_i32_26
  let v77 : BitVec 32 := Scalar.extui v76
  let c0_i32_27 : BitVec 32 := 0#32
  let v78 : BitVec 1 := Scalar.cmpi .ne v77 c0_i32_27
  v78

def k0_off10 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v2 : BitVec 32 := Scalar.muli v1 c131072_i32
  let c0_i32_7 : BitVec 32 := 0#32
  let c0_i32_4 : BitVec 32 := 0#32
  let c1_i32 : BitVec 32 := 1#32
  let arg31 : BitVec 32 := Scf.iv c0_i32_4 c1_i32 k0_t1
  let c4_i32_6 : BitVec 32 := 4#32
  let v43 : BitVec 32 := Scalar.muli arg31 c4_i32_6
  let v44 : BitVec 32 := Scalar.addi c0_i32_7 v43
  let c1_i32_17 : BitVec 32 := 1#32
  let v62 : BitVec 32 := Scalar.addi v44 c1_i32_17
  let c4_i32_49 : BitVec 32 := 4#32
  let v113 : BitVec 32 := Scalar.addi v62 c4_i32_49
  let c8192_i32_50 : BitVec 32 := 8192#32
  let v114 : BitVec 32 := Scalar.muli v113 c8192_i32_50
  let v115 : BitVec 32 := Scalar.addi v2 v114
  ![v115.toNat]
def k0_cond5 (k0_t1 : Fin k0_t1_loop.trips) : BitVec 1 :=
  let c0_i32_7 : BitVec 32 := 0#32
  let c0_i32_4 : BitVec 32 := 0#32
  let c1_i32 : BitVec 32 := 1#32
  let arg31 : BitVec 32 := Scf.iv c0_i32_4 c1_i32 k0_t1
  let c4_i32_6 : BitVec 32 := 4#32
  let v43 : BitVec 32 := Scalar.muli arg31 c4_i32_6
  let v44 : BitVec 32 := Scalar.addi c0_i32_7 v43
  let c2_i32_28 : BitVec 32 := 2#32
  let v79 : BitVec 32 := Scalar.addi v44 c2_i32_28
  let c4_i32_30 : BitVec 32 := 4#32
  let v86 : BitVec 1 := Scalar.cmpi .sge v79 c4_i32_30
  let v87 : BitVec 32 := Scalar.extui v86
  let c0_i32_31 : BitVec 32 := 0#32
  let v88 : BitVec 1 := Scalar.cmpi .ne v87 c0_i32_31
  v88

def k0_off11 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v2 : BitVec 32 := Scalar.muli v1 c131072_i32
  ![v2.toNat]
@[reducible] def k0_t4_loop : Scf.Loop 32 :=
  let c0_i32_32 : BitVec 32 := 0#32
  let c512_i32_33 : BitVec 32 := 512#32
  let v89 : BitVec 32 := Scalar.addi c0_i32_32 c512_i32_33
  let c1_i32_34 : BitVec 32 := 1#32
  ⟨c0_i32_32, v89, c1_i32_34⟩
def k0_off12 (k0_t4 : Fin k0_t4_loop.trips) : Fin 1 → Nat :=
  let c0_i32_50 : BitVec 32 := 0#32
  let c0_i32_32 : BitVec 32 := 0#32
  let c1_i32_34 : BitVec 32 := 1#32
  let arg32 : BitVec 32 := Scf.iv c0_i32_32 c1_i32_34 k0_t4
  let c16_i32_49 : BitVec 32 := 16#32
  let v113 : BitVec 32 := Scalar.muli arg32 c16_i32_49
  let v114 : BitVec 32 := Scalar.addi c0_i32_50 v113
  let v115 : Index := Scalar.indexCast v114
  ![v115.toNat]

def k0_chk3 (v116 : IVec S16 32) : Prop :=
  (∀ a x, ((![v116] : Fin 1 → IVec S16 32) a x).toNat < S16.size a) ∧
  (∀ a x, ((![v116] : Fin 1 → IVec S16 32) a x).toNat < S16.size a) ∧
  (∀ a x, ((![v116] : Fin 1 → IVec S16 32) a x).toNat < S16.size a)
theorem k0_idx7_inb : ∀ (v116 : IVec S16 32) (k0_hw3 : k0_chk3 v116), ∀ a x, ((![v116] : Fin 1 → IVec S16 32) a x).toNat < S16.size a := fun v116 k0_hw3 => k0_hw3.1
theorem k0_idx8_inb : ∀ (v116 : IVec S16 32) (k0_hw3 : k0_chk3 v116), ∀ a x, ((![v116] : Fin 1 → IVec S16 32) a x).toNat < S16.size a := fun v116 k0_hw3 => k0_hw3.2.1
theorem k0_idx9_inb : ∀ (v116 : IVec S16 32) (k0_hw3 : k0_chk3 v116), ∀ a x, ((![v116] : Fin 1 → IVec S16 32) a x).toNat < S16.size a := fun v116 k0_hw3 => k0_hw3.2.2
def k0_off13 (k0_t4 : Fin k0_t4_loop.trips) : Fin 1 → Nat :=
  let c0_i32_50 : BitVec 32 := 0#32
  let c0_i32_32 : BitVec 32 := 0#32
  let c1_i32_34 : BitVec 32 := 1#32
  let arg32 : BitVec 32 := Scf.iv c0_i32_32 c1_i32_34 k0_t4
  let c16_i32_49 : BitVec 32 := 16#32
  let v113 : BitVec 32 := Scalar.muli arg32 c16_i32_49
  let v114 : BitVec 32 := Scalar.addi c0_i32_50 v113
  let v128 : Index := Scalar.indexCast v114
  ![v128.toNat]
def k0_cond6 (k0_t1 : Fin k0_t1_loop.trips) : BitVec 1 :=
  let c0_i32_7 : BitVec 32 := 0#32
  let c0_i32_4 : BitVec 32 := 0#32
  let c1_i32 : BitVec 32 := 1#32
  let arg31 : BitVec 32 := Scf.iv c0_i32_4 c1_i32 k0_t1
  let c4_i32_6 : BitVec 32 := 4#32
  let v43 : BitVec 32 := Scalar.muli arg31 c4_i32_6
  let v44 : BitVec 32 := Scalar.addi c0_i32_7 v43
  let c2_i32_28 : BitVec 32 := 2#32
  let v79 : BitVec 32 := Scalar.addi v44 c2_i32_28
  let c4_i32_36 : BitVec 32 := 4#32
  let v92 : BitVec 32 := Scalar.addi v79 c4_i32_36
  let c16_i32_37 : BitVec 32 := 16#32
  let v93 : BitVec 1 := Scalar.cmpi .slt v92 c16_i32_37
  let v94 : BitVec 32 := Scalar.extui v93
  let c0_i32_38 : BitVec 32 := 0#32
  let v95 : BitVec 1 := Scalar.cmpi .ne v94 c0_i32_38
  v95

def k0_off14 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v2 : BitVec 32 := Scalar.muli v1 c131072_i32
  let c0_i32_7 : BitVec 32 := 0#32
  let c0_i32_4 : BitVec 32 := 0#32
  let c1_i32 : BitVec 32 := 1#32
  let arg31 : BitVec 32 := Scf.iv c0_i32_4 c1_i32 k0_t1
  let c4_i32_6 : BitVec 32 := 4#32
  let v43 : BitVec 32 := Scalar.muli arg31 c4_i32_6
  let v44 : BitVec 32 := Scalar.addi c0_i32_7 v43
  let c2_i32_28 : BitVec 32 := 2#32
  let v79 : BitVec 32 := Scalar.addi v44 c2_i32_28
  let c4_i32_49 : BitVec 32 := 4#32
  let v113 : BitVec 32 := Scalar.addi v79 c4_i32_49
  let c8192_i32_50 : BitVec 32 := 8192#32
  let v114 : BitVec 32 := Scalar.muli v113 c8192_i32_50
  let v115 : BitVec 32 := Scalar.addi v2 v114
  ![v115.toNat]
def k0_cond7 (k0_t1 : Fin k0_t1_loop.trips) : BitVec 1 :=
  let c0_i32_7 : BitVec 32 := 0#32
  let c0_i32_4 : BitVec 32 := 0#32
  let c1_i32 : BitVec 32 := 1#32
  let arg31 : BitVec 32 := Scf.iv c0_i32_4 c1_i32 k0_t1
  let c4_i32_6 : BitVec 32 := 4#32
  let v43 : BitVec 32 := Scalar.muli arg31 c4_i32_6
  let v44 : BitVec 32 := Scalar.addi c0_i32_7 v43
  let c3_i32 : BitVec 32 := 3#32
  let v96 : BitVec 32 := Scalar.addi v44 c3_i32
  let c4_i32_40 : BitVec 32 := 4#32
  let v103 : BitVec 1 := Scalar.cmpi .sge v96 c4_i32_40
  let v104 : BitVec 32 := Scalar.extui v103
  let c0_i32_41 : BitVec 32 := 0#32
  let v105 : BitVec 1 := Scalar.cmpi .ne v104 c0_i32_41
  v105

def k0_off15 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v2 : BitVec 32 := Scalar.muli v1 c131072_i32
  ![v2.toNat]
@[reducible] def k0_t5_loop : Scf.Loop 32 :=
  let c0_i32_42 : BitVec 32 := 0#32
  let c512_i32_43 : BitVec 32 := 512#32
  let v106 : BitVec 32 := Scalar.addi c0_i32_42 c512_i32_43
  let c1_i32_44 : BitVec 32 := 1#32
  ⟨c0_i32_42, v106, c1_i32_44⟩
def k0_off16 (k0_t5 : Fin k0_t5_loop.trips) : Fin 1 → Nat :=
  let c0_i32_50 : BitVec 32 := 0#32
  let c0_i32_42 : BitVec 32 := 0#32
  let c1_i32_44 : BitVec 32 := 1#32
  let arg32 : BitVec 32 := Scf.iv c0_i32_42 c1_i32_44 k0_t5
  let c16_i32_49 : BitVec 32 := 16#32
  let v113 : BitVec 32 := Scalar.muli arg32 c16_i32_49
  let v114 : BitVec 32 := Scalar.addi c0_i32_50 v113
  let v115 : Index := Scalar.indexCast v114
  ![v115.toNat]

def k0_chk4 (v116 : IVec S16 32) : Prop :=
  (∀ a x, ((![v116] : Fin 1 → IVec S16 32) a x).toNat < S16.size a) ∧
  (∀ a x, ((![v116] : Fin 1 → IVec S16 32) a x).toNat < S16.size a) ∧
  (∀ a x, ((![v116] : Fin 1 → IVec S16 32) a x).toNat < S16.size a)
theorem k0_idx10_inb : ∀ (v116 : IVec S16 32) (k0_hw4 : k0_chk4 v116), ∀ a x, ((![v116] : Fin 1 → IVec S16 32) a x).toNat < S16.size a := fun v116 k0_hw4 => k0_hw4.1
theorem k0_idx11_inb : ∀ (v116 : IVec S16 32) (k0_hw4 : k0_chk4 v116), ∀ a x, ((![v116] : Fin 1 → IVec S16 32) a x).toNat < S16.size a := fun v116 k0_hw4 => k0_hw4.2.1
theorem k0_idx12_inb : ∀ (v116 : IVec S16 32) (k0_hw4 : k0_chk4 v116), ∀ a x, ((![v116] : Fin 1 → IVec S16 32) a x).toNat < S16.size a := fun v116 k0_hw4 => k0_hw4.2.2
def k0_off17 (k0_t5 : Fin k0_t5_loop.trips) : Fin 1 → Nat :=
  let c0_i32_50 : BitVec 32 := 0#32
  let c0_i32_42 : BitVec 32 := 0#32
  let c1_i32_44 : BitVec 32 := 1#32
  let arg32 : BitVec 32 := Scf.iv c0_i32_42 c1_i32_44 k0_t5
  let c16_i32_49 : BitVec 32 := 16#32
  let v113 : BitVec 32 := Scalar.muli arg32 c16_i32_49
  let v114 : BitVec 32 := Scalar.addi c0_i32_50 v113
  let v128 : Index := Scalar.indexCast v114
  ![v128.toNat]
def k0_cond8 (k0_t1 : Fin k0_t1_loop.trips) : BitVec 1 :=
  let c0_i32_7 : BitVec 32 := 0#32
  let c0_i32_4 : BitVec 32 := 0#32
  let c1_i32 : BitVec 32 := 1#32
  let arg31 : BitVec 32 := Scf.iv c0_i32_4 c1_i32 k0_t1
  let c4_i32_6 : BitVec 32 := 4#32
  let v43 : BitVec 32 := Scalar.muli arg31 c4_i32_6
  let v44 : BitVec 32 := Scalar.addi c0_i32_7 v43
  let c3_i32 : BitVec 32 := 3#32
  let v96 : BitVec 32 := Scalar.addi v44 c3_i32
  let c4_i32_46 : BitVec 32 := 4#32
  let v109 : BitVec 32 := Scalar.addi v96 c4_i32_46
  let c16_i32_47 : BitVec 32 := 16#32
  let v110 : BitVec 1 := Scalar.cmpi .slt v109 c16_i32_47
  let v111 : BitVec 32 := Scalar.extui v110
  let c0_i32_48 : BitVec 32 := 0#32
  let v112 : BitVec 1 := Scalar.cmpi .ne v111 c0_i32_48
  v112

def k0_off18 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v2 : BitVec 32 := Scalar.muli v1 c131072_i32
  let c0_i32_7 : BitVec 32 := 0#32
  let c0_i32_4 : BitVec 32 := 0#32
  let c1_i32 : BitVec 32 := 1#32
  let arg31 : BitVec 32 := Scf.iv c0_i32_4 c1_i32 k0_t1
  let c4_i32_6 : BitVec 32 := 4#32
  let v43 : BitVec 32 := Scalar.muli arg31 c4_i32_6
  let v44 : BitVec 32 := Scalar.addi c0_i32_7 v43
  let c3_i32 : BitVec 32 := 3#32
  let v96 : BitVec 32 := Scalar.addi v44 c3_i32
  let c4_i32_49 : BitVec 32 := 4#32
  let v113 : BitVec 32 := Scalar.addi v96 c4_i32_49
  let c8192_i32_50 : BitVec 32 := 8192#32
  let v114 : BitVec 32 := Scalar.muli v113 c8192_i32_50
  let v115 : BitVec 32 := Scalar.addi v2 v114
  ![v115.toNat]
def k0_off19 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v2 : BitVec 32 := Scalar.muli v1 c131072_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "half_log_2pi" => some (((1 / 2) * (Real.log (13176795 / 2097152)) : ℝ) : EReal)
  | _ => none
-- ==== ReferenceIdeal.lean ====
abbrev S4194304 : Shape := ⟨1, ![4194304]⟩
abbrev S16 : Shape := ⟨1, ![16]⟩
abbrev S_ : Shape := ⟨0, ![]⟩
abbrev S4194304x1 : Shape := ⟨2, ![4194304, 1]⟩
abbrev S1 : Shape := ⟨1, ![1]⟩
abbrev S1x1 : Shape := ⟨2, ![1, 1]⟩

abbrev nBuf : Space → Nat
  | .hbm => 88
  | .vmem => 0
  | .smem => 0
  | _ => 0

abbrev bufTy : (tb : Table) → Fin (tcTables nBuf tb) → BufTy
  | .hbm, ⟨0, _⟩ => ⟨S4194304, .i32⟩
  | .hbm, ⟨1, _⟩ => ⟨S4194304, .f32⟩
  | .hbm, ⟨2, _⟩ => ⟨S16, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S_, .i32⟩
  | .hbm, ⟨7, _⟩ => ⟨S4194304, .i32⟩
  | .hbm, ⟨8, _⟩ => ⟨S4194304, .i1⟩
  | .hbm, ⟨9, _⟩ => ⟨S_, .i32⟩
  | .hbm, ⟨10, _⟩ => ⟨S4194304, .i32⟩
  | .hbm, ⟨11, _⟩ => ⟨S4194304, .i32⟩
  | .hbm, ⟨12, _⟩ => ⟨S4194304, .i32⟩
  | .hbm, ⟨13, _⟩ => ⟨S4194304x1, .i32⟩
  | .hbm, ⟨14, _⟩ => ⟨S1, .i32⟩
  | .hbm, ⟨15, _⟩ => ⟨S_, .i32⟩
  | .hbm, ⟨16, _⟩ => ⟨S4194304x1, .i32⟩
  | .hbm, ⟨17, _⟩ => ⟨S4194304x1, .i1⟩
  | .hbm, ⟨18, _⟩ => ⟨S1x1, .i32⟩
  | .hbm, ⟨19, _⟩ => ⟨S4194304x1, .i32⟩
  | .hbm, ⟨20, _⟩ => ⟨S4194304x1, .i1⟩
  | .hbm, ⟨21, _⟩ => ⟨S4194304x1, .i1⟩
  | .hbm, ⟨22, _⟩ => ⟨S_, .i1⟩
  | .hbm, ⟨23, _⟩ => ⟨S4194304, .i1⟩
  | .hbm, ⟨24, _⟩ => ⟨S4194304, .f32⟩
  | .hbm, ⟨25, _⟩ => ⟨S_, .f32⟩
  | .hbm, ⟨26, _⟩ => ⟨S4194304, .f32⟩
  | .hbm, ⟨27, _⟩ => ⟨S4194304, .f32⟩
  | .hbm, ⟨28, _⟩ => ⟨S_, .i32⟩
  | .hbm, ⟨29, _⟩ => ⟨S4194304, .i32⟩
  | .hbm, ⟨30, _⟩ => ⟨S4194304, .i1⟩
  | .hbm, ⟨31, _⟩ => ⟨S_, .i32⟩
  | .hbm, ⟨32, _⟩ => ⟨S4194304, .i32⟩
  | .hbm, ⟨33, _⟩ => ⟨S4194304, .i32⟩
  | .hbm, ⟨34, _⟩ => ⟨S4194304, .i32⟩
  | .hbm, ⟨35, _⟩ => ⟨S4194304x1, .i32⟩
  | .hbm, ⟨36, _⟩ => ⟨S1, .i32⟩
  | .hbm, ⟨37, _⟩ => ⟨S_, .i32⟩
  | .hbm, ⟨38, _⟩ => ⟨S4194304x1, .i32⟩
  | .hbm, ⟨39, _⟩ => ⟨S4194304x1, .i1⟩
  | .hbm, ⟨40, _⟩ => ⟨S1x1, .i32⟩
  | .hbm, ⟨41, _⟩ => ⟨S4194304x1, .i32⟩
  | .hbm, ⟨42, _⟩ => ⟨S4194304x1, .i1⟩
  | .hbm, ⟨43, _⟩ => ⟨S4194304x1, .i1⟩
  | .hbm, ⟨44, _⟩ => ⟨S_, .i1⟩
  | .hbm, ⟨45, _⟩ => ⟨S4194304, .i1⟩
  | .hbm, ⟨46, _⟩ => ⟨S4194304, .f32⟩
  | .hbm, ⟨47, _⟩ => ⟨S_, .f32⟩
  | .hbm, ⟨48, _⟩ => ⟨S4194304, .f32⟩
  | .hbm, ⟨49, _⟩ => ⟨S4194304, .f32⟩
  | .hbm, ⟨50, _⟩ => ⟨S_, .i32⟩
  | .hbm, ⟨51, _⟩ => ⟨S4194304, .i32⟩
  | .hbm, ⟨52, _⟩ => ⟨S4194304, .i1⟩
  | .hbm, ⟨53, _⟩ => ⟨S_, .i32⟩
  | .hbm, ⟨54, _⟩ => ⟨S4194304, .i32⟩
  | .hbm, ⟨55, _⟩ => ⟨S4194304, .i32⟩
  | .hbm, ⟨56, _⟩ => ⟨S4194304, .i32⟩
  | .hbm, ⟨57, _⟩ => ⟨S4194304x1, .i32⟩
  | .hbm, ⟨58, _⟩ => ⟨S1, .i32⟩
  | .hbm, ⟨59, _⟩ => ⟨S_, .i32⟩
  | .hbm, ⟨60, _⟩ => ⟨S4194304x1, .i32⟩
  | .hbm, ⟨61, _⟩ => ⟨S4194304x1, .i1⟩
  | .hbm, ⟨62, _⟩ => ⟨S1x1, .i32⟩
  | .hbm, ⟨63, _⟩ => ⟨S4194304x1, .i32⟩
  | .hbm, ⟨64, _⟩ => ⟨S4194304x1, .i1⟩
  | .hbm, ⟨65, _⟩ => ⟨S4194304x1, .i1⟩
  | .hbm, ⟨66, _⟩ => ⟨S_, .i1⟩
  | .hbm, ⟨67, _⟩ => ⟨S4194304, .i1⟩
  | .hbm, ⟨68, _⟩ => ⟨S4194304, .f32⟩
  | .hbm, ⟨69, _⟩ => ⟨S_, .f32⟩
  | .hbm, ⟨70, _⟩ => ⟨S4194304, .f32⟩
  | .hbm, ⟨71, _⟩ => ⟨S4194304, .f32⟩
  | .hbm, ⟨72, _⟩ => ⟨S4194304, .f32⟩
  | .hbm, ⟨73, _⟩ => ⟨S4194304, .f32⟩
  | .hbm, ⟨74, _⟩ => ⟨S4194304, .f32⟩
  | .hbm, ⟨75, _⟩ => ⟨S_, .f32⟩
  | .hbm, ⟨76, _⟩ => ⟨S4194304, .f32⟩
  | .hbm, ⟨77, _⟩ => ⟨S4194304, .f32⟩
  | .hbm, ⟨78, _⟩ => ⟨S4194304, .f32⟩
  | .hbm, ⟨79, _⟩ => ⟨S4194304, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S4194304, .f32⟩
  | .hbm, ⟨86, _⟩ => ⟨S4194304, .f32⟩
  | .hbm, ⟨87, _⟩ => ⟨S4194304, .f32⟩
  | _, _ => ⟨S4194304, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v1 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_cst : Ref sig .tc := ⟨.hbm, 47, rfl⟩
abbrev main_call1_v14 : Ref sig .tc := ⟨.hbm, 48, rfl⟩
abbrev main_v2 : Ref sig .tc := ⟨.hbm, 49, rfl⟩
abbrev main_call2_c : Ref sig .tc := ⟨.hbm, 50, rfl⟩
abbrev main_call2_v0 : Ref sig .tc := ⟨.hbm, 51, rfl⟩
abbrev main_call2_v1 : Ref sig .tc := ⟨.hbm, 52, rfl⟩
abbrev main_call2_c_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_c_1 : Ref sig .tc := ⟨.hbm, 58, rfl⟩
abbrev main_call2_c_2 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_3 : Ref sig .tc := ⟨.hbm, 66, rfl⟩
abbrev main_call2_v12 : Ref sig .tc := ⟨.hbm, 67, rfl⟩
abbrev main_call2_v13 : Ref sig .tc := ⟨.hbm, 68, rfl⟩
abbrev main_call2_cst : Ref sig .tc := ⟨.hbm, 69, rfl⟩
abbrev main_call2_v14 : Ref sig .tc := ⟨.hbm, 70, rfl⟩
abbrev main_v3 : Ref sig .tc := ⟨.hbm, 71, rfl⟩
abbrev main_v4 : Ref sig .tc := ⟨.hbm, 72, rfl⟩
abbrev main_v5 : Ref sig .tc := ⟨.hbm, 73, rfl⟩
abbrev main_v6 : Ref sig .tc := ⟨.hbm, 74, rfl⟩
abbrev main_cst : Ref sig .tc := ⟨.hbm, 75, rfl⟩
abbrev main_v7 : Ref sig .tc := ⟨.hbm, 76, rfl⟩
abbrev main_v8 : Ref sig .tc := ⟨.hbm, 77, rfl⟩
abbrev main_v9 : Ref sig .tc := ⟨.hbm, 78, rfl⟩
abbrev main_v10 : Ref sig .tc := ⟨.hbm, 79, rfl⟩
abbrev main_cst_0 : Ref sig .tc := ⟨.hbm, 80, rfl⟩
abbrev main_v11 : Ref sig .tc := ⟨.hbm, 81, rfl⟩
abbrev main_cst_1 : Ref sig .tc := ⟨.hbm, 82, rfl⟩
abbrev main_v12 : Ref sig .tc := ⟨.hbm, 83, rfl⟩
abbrev main_v13 : Ref sig .tc := ⟨.hbm, 84, rfl⟩
abbrev main_v14 : Ref sig .tc := ⟨.hbm, 85, rfl⟩
abbrev main_v15 : Ref sig .tc := ⟨.hbm, 86, rfl⟩
abbrev main_v16 : Ref sig .tc := ⟨.hbm, 87, rfl⟩

abbrev nD : Nat := 1
abbrev τ : Topo := Topo.v7x

variable {F : FTy → Type} [FloatOps F]
-- ==== Proof.Basic.lean ====
/-
  The launch as the proof sees it: the program's labels and call, the ghost state its proof uses, the arrays and
  the windows a tile copies.

  The call runs one task on each of thirty-two tiles, two SparseCores of sixteen. The task of tile `(c, j)` owns the
  `131072` consecutive elements of the index array, the point array and the result that begin at
  `262144 * j + 131072 * c`; it goes through them in sixteen chunks of `8192`, chunk `4 * t + b` passing through
  buffer `b` of four in trip `t` of four.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Batch
public import Idealize.ShloMosaic.Lib.Tactic
public import proofs.«01_k».proof.Proof.Gen.KernelIdeal
public import proofs.«01_k».proof.Proof.Gen.KernelIdeal.Skeleton

@[expose] public section

noncomputable section

namespace Cert.Proof.Mix

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The ghost state: the launch's handshakes, the transfers' counters -/

abbrev UH : Type := URounds (GSem nD τ sig) ℕ
abbrev UU : Type := UH × Counters

abbrev EH : Emb UH (MT nD τ sig (HIx 1) (Elt F) ℕ UU ℕ) := embL

/-- The propositions of the proof. -/
abbrev PP (F : FTy → Type) : Type := sProp (MT nD τ sig (HIx 1) (Elt F) ℕ UU ℕ)

/-- The index every wait of a task is made at. -/
abbrev ι₀ : HIx 1 := default

/-! ## The tiles -/

abbrev cV (L : grid0.Coords) : Fin τ.nSC := (L 0).castLE hcore0
abbrev jV (L : grid0.Coords) : Fin τ.nSub := (L 1).castLE hsub0

/-- The thread of the tile at `L` of device `d`. -/
abbrev thr (d : Dev nD) (L : grid0.Coords) : Thread nD τ := V d (cV L) (jV L)

/-! ## The arrays -/

abbrev zLoc (d : Dev nD) : Loc nD τ sig := (SparseCore.T d).loc main_arg0
abbrev xLoc (d : Dev nD) : Loc nD τ sig := (SparseCore.T d).loc main_arg1
abbrev pLoc (d : Dev nD) : Loc nD τ sig := (SparseCore.T d).loc main_arg2
abbrev muLoc (d : Dev nD) : Loc nD τ sig := (SparseCore.T d).loc main_arg3
abbrev sdLoc (d : Dev nD) : Loc nD τ sig := (SparseCore.T d).loc main_arg4
abbrev oLoc (d : Dev nD) : Loc nD τ sig := (SparseCore.T d).loc main_v0

abbrev zA : Memref sig .scVector .hbm S4194304 .i32 := Memref.whole main_arg0_scv
abbrev xA : Memref sig .scVector .hbm S4194304 .f32 := Memref.whole main_arg1_scv
abbrev pA : Memref sig .scVector .hbm S16 .f32 := Memref.whole main_arg2_scv
abbrev muA : Memref sig .scVector .hbm S16 .f32 := Memref.whole main_arg3_scv
abbrev sdA : Memref sig .scVector .hbm S16 .f32 := Memref.whole main_arg4_scv
abbrev oA : Memref sig .scVector .hbm S4194304 .f32 := Memref.whole main_v0_scv

/-! ## The chunks -/

/-- Where chunk `(t, b)` of the tile at `L` begins. -/
abbrev cOff (L : grid0.Coords) (t b : Fin 4) : Fin 1 → ℕ :=
  ![262144 * (L 1).val + 131072 * (L 0).val + 32768 * t.val + 8192 * b.val]

theorem cOff_inb (L : grid0.Coords) (t b : Fin 4) : ∀ a, cOff L t b a + S8192.size a ≤ S4194304.size a := by
  have h0 : (L 0).val < 2 := (L 0).isLt
  have h1 : (L 1).val < 16 := (L 1).isLt
  have ht := t.isLt
  have hb := b.isLt
  intro a
  match a with
  | 0 => show 262144 * (L 1).val + 131072 * (L 0).val + 32768 * t.val + 8192 * b.val + 8192 ≤ 4194304; omega

abbrev cRect (L : grid0.Coords) (t b : Fin 4) : Rect S4194304 := Rect.unit (s := S4194304) (cOff L t b) S8192.size (cOff_inb L t b)

/-- Chunk `(t, b)` of an array. -/
abbrev chunk {e : EltTy} (A : Memref sig .scVector .hbm S4194304 e) (L : grid0.Coords) (t b : Fin 4) : Memref sig .scVector .hbm S8192 e :=
  A.slice (cRect L t b) (fun _ => rfl)

/-- A window of `8192` elements that begins where chunk `(t, b)` begins is that chunk. -/
theorem slice_eq_chunk {e : EltTy} (A : Memref sig .scVector .hbm S4194304 e) (L : grid0.Coords) (t b : Fin 4) {off : Fin 1 → ℕ}
    (inb : ∀ a, off a + S8192.size a ≤ S4194304.size a) (h : off = cOff L t b) :
    A.slice (Rect.unit (s := S4194304) off S8192.size inb) (fun _ => rfl) = chunk A L t b := by
  subst h; rfl

end Cert.Proof.Mix

end
-- ==== Proof.Mem.lean ====
/-
  What a buffer holds, and the transfers of one chunk.

  `holds d L M x`: the tile at `L` owns the buffer `M` and reads `x` from it. Two transfers fetch a chunk (indices and
  points) and signal one semaphore; two waits, each for one transfer's amount, then hand out both landings at once. One
  transfer sends a chunk of results out. The rules are stated for any buffer, window and semaphore.
-/
module

public import proofs.«01_k».proof.Proof.Basic

@[expose] public section

noncomputable section

namespace Cert.Proof.Mix

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

variable (d : Dev nD) (L : grid0.Coords)

/-! ## What a buffer holds -/

/-- The elements of `M` at contents `f`. -/
abbrev pts {sp : Space} {s : Shape} {e : EltTy} (M : Memref sig .scVector sp s e) (f : Buf (Elt F) (M.view.loc (thr d L))) : PP F :=
  iprop(M.view.loc (thr d L) ↦[M.view.set]{fullShare} f)

/-- The buffer `M` reads as `x`. -/
def holds {sp : Space} {s : Shape} {e : EltTy} (M : Memref sig .scVector sp s e) (x : s.Idx → Elt F e) : PP F :=
  iprop(∃ f, ⌜M.view.read (Elt F) f = x⌝ ∗ pts d L M f)

/-- The buffer `M`, at some contents. -/
def free {sp : Space} {s : Shape} {e : EltTy} (M : Memref sig .scVector sp s e) : PP F := iprop(∃ f, pts d L M f)

instance holds_storable {sp : Space} {s : Shape} {e : EltTy} (M : Memref sig .scVector sp s e) (x : s.Idx → Elt F e) :
    BI.Storable (upEmb : UEmb _ (MT nD τ sig (HIx 1) (Elt F) ℕ UU ℕ)) (holds d L M x) := by
  unfold holds; infer_instance

theorem holds_free {sp : Space} {s : Shape} {e : EltTy} (M : Memref sig .scVector sp s e) (x : s.Idx → Elt F e) :
    holds d L M x ⊢ free d L M := by
  unfold holds free
  iintro ⟨%f, -, H⟩
  iexists f; iexact H

theorem holds_pts {sp : Space} {s : Shape} {e : EltTy} (M : Memref sig .scVector sp s e) (x : s.Idx → Elt F e) :
    holds d L M x ⊢ iprop(∃ f, ⌜M.view.read (Elt F) f = x⌝ ∗ pts d L M f) := .rfl

theorem free_pts {sp : Space} {s : Shape} {e : EltTy} (M : Memref sig .scVector sp s e) :
    free (F := F) d L M ⊢ iprop(∃ f, pts d L M f) := .rfl

theorem holds_of_pts {sp : Space} {s : Shape} {e : EltTy} (M : Memref sig .scVector sp s e) {x : s.Idx → Elt F e}
    {f : Buf (Elt F) (M.view.loc (thr d L))} (h : M.view.read (Elt F) f = x) : pts d L M f ⊢ holds d L M x := by
  unfold holds
  iintro H
  iexists f; isplitr
  · ipureintro; exact h
  · iexact H

/-- Two propositions, by number. -/
abbrev pair (A B : PP F) (t : Fin 2) : PP F := match t with | 0 => A | 1 => B

instance pair_storable (A B : PP F) [BI.Storable (upEmb : UEmb _ (MT nD τ sig (HIx 1) (Elt F) ℕ UU ℕ)) A]
    [BI.Storable (upEmb : UEmb _ (MT nD τ sig (HIx 1) (Elt F) ℕ UU ℕ)) B] (t : Fin 2) :
    BI.Storable (upEmb : UEmb _ (MT nD τ sig (HIx 1) (Elt F) ℕ UU ℕ)) (pair A B t) :=
  match t with
  | 0 => (inferInstance : BI.Storable (upEmb : UEmb _ (MT nD τ sig (HIx 1) (Elt F) ℕ UU ℕ)) A)
  | 1 => (inferInstance : BI.Storable (upEmb : UEmb _ (MT nD τ sig (HIx 1) (Elt F) ℕ UU ℕ)) B)

/-! ## The transfers -/

/-- What a landing from window `W` into the buffer `M` delivers: the buffer reading as the window did, the window. -/
abbrev landed {sp sp' : Space} {s : Shape} {e : EltTy} (W : Memref sig .scVector sp s e) (M : Memref sig .scVector sp' s e)
    (f : Buf (Elt F) (W.view.loc (thr d L))) : PP F :=
  iprop(holds d L M (W.view.read (Elt F) f) ∗ pts d L W f)

/-- The two transfers that fetch a chunk into `zM` and `xM`, under way. -/
abbrev fetching (zM : Memref sig .scVector .vmem S8192 .i32) (xM : Memref sig .scVector .vmem S8192 .f32)
    (zW : Memref sig .scVector .hbm S8192 .i32) (xW : Memref sig .scVector .hbm S8192 .f32) (sem : DmaSem sig) (N : ℕ)
    (fz : Buf (Elt F) (zW.view.loc (thr d L))) (fx : Buf (Elt F) (xW.view.loc (thr d L))) (u : ℕ) : PP F :=
  Transfers.Batch (countersEmb (nD := nD) (τ := τ) (sig := sig) (Ix := HIx 1) (Val := Elt F) (Name := ℕ) (U := UU) (Lvl := ℕ)) (thr d L) (.dma sem) ι₀ N
    (pair (landed d L zW zM fz) (landed d L xW xM fx)) 2 u

section Rules

variable {O : CellTallies nD τ sig (HIx 1)} {W : Waits sig (HIx 1)}
  {zM : Memref sig .scVector .vmem S8192 .i32} {xM oM : Memref sig .scVector .vmem S8192 .f32}
  {zW : Memref sig .scVector .hbm S8192 .i32} {xW oW : Memref sig .scVector .hbm S8192 .f32} {sem : DmaSem sig} {N : ℕ}
  {fz : Buf (Elt F) (zW.view.loc (thr d L))} {fx : Buf (Elt F) (xW.view.loc (thr d L))}

/-- What the core runs next, from its own memory operations alone. -/
abbrev wpT {α : Type} (p : Prog (TpuEff nD τ sig (Elt F) Λ₀ (thr d L).2) α) (Q : α → PP F) : PP F :=
  wp frame (wpE (defs₀ (F := F)) 𝒱₀ (thr d L) none) Set.univ p Q

theorem wpT_bind {α β : Type} (p : Prog (TpuEff nD τ sig (Elt F) Λ₀ (thr d L).2) α) (k : α → Prog (TpuEff nD τ sig (Elt F) Λ₀ (thr d L).2) β)
    (Q : β → PP F) : wpT d L (p >>= k) Q = wpT d L p fun a => wpT d L (k a) Q := by
  simp only [wpT, wp_bind]

/-- A program that has ended. -/
theorem wp_done (Q : PP F) : Q ⊢ wpT d L (Prog.ret PUnit.unit) fun _ => Q := fupd_intro

/-- Two transfers fetch the windows of a chunk: both under way after the second. -/
theorem wp_fetch {hz1 : zW.view.WordExact} {hz2 : zM.view.WordExact} {hz3 : DmaTarget.Typed (nD := nD) (τ := τ) (p := .scVector (cV L) (jV L)) .hbm (.dma sem) (.here zM)}
    {hx1 : xW.view.WordExact} {hx2 : xM.view.WordExact} {hx3 : DmaTarget.Typed (nD := nD) (τ := τ) (p := .scVector (cV L) (jV L)) .hbm (.dma sem) (.here xM)}
    (hNz : zM.view.amount (.dma sem) = N) (hNx : xM.view.amount (.dma sem) = N) (Q : PP F) :
    iprop(pts d L zW fz ∗ pts d L xW fx ∗ free d L zM ∗ free d L xM ∗ semVal (thr d L, SemLoc.dma sem) 0)
      ⊢ iprop((fetching d L zM xM zW xW sem N fz fx 0 -∗ Q)
        -∗ wpT d L (Prog.lift (.enqueueDma zW (.here zM) (.dma sem) hz1 hz2 hz3)) fun _ =>
            wpT d L (Prog.lift (.enqueueDma xW (.here xM) (.dma sem) hx1 hx2 hx3)) fun _ => Q) := by
  unfold free
  iintro ⟨Hz, Hx, ⟨%gz, Hzm⟩, ⟨%gx, Hxm⟩, Hs⟩ Hk
  iapply (fupd_wp frame _ _ _ _)
  imod (Transfers.batch_alloc' countersEmb (thr d L) ι₀ N (pair (landed d L zW zM fz) (landed d L xW xM fx)) (sm := .dma sem) (E := Set.univ)) $$ Hs with HB
  imodintro
  iapply (Transfers.wp_dmaBatch countersEmb 𝒱₀ (thr d L) none ι₀ N hNz (Finset.Subset.refl _) (by decide : 0 < 2) (Nat.zero_le _)
    (D := pair (landed d L zW zM fz) (landed d L xW xM fx)) (sep_mono_left (holds_of_pts d L zM (View.read_write_univ _ _)))) $$ [Hz Hzm HB]
  · isplitl [Hz]; · iexact Hz
    isplitl [Hzm]; · iexact Hzm
    iexact HB
  iintro HB
  iapply (wp_done d L _)
  iapply (Transfers.wp_dmaBatch countersEmb 𝒱₀ (thr d L) none ι₀ N hNx (Finset.Subset.refl _) (by decide : 1 < 2) (Nat.zero_le _)
    (D := pair (landed d L zW zM fz) (landed d L xW xM fx)) (sep_mono_left (holds_of_pts d L xM (View.read_write_univ _ _)))) $$ [Hx Hxm HB]
  · isplitl [Hx]; · iexact Hx
    isplitl [Hxm]; · iexact Hxm
    iexact HB
  iintro HB
  iapply (wp_done d L _)
  iapply Hk; iexact HB

/-- The two waits for a chunk: both landings, the semaphore's counter at zero. -/
theorem wp_await {s s' : Shape} {e e' : EltTy} {sp sp' : Space} {w : Memref sig .scVector sp s e} {w' : Memref sig .scVector sp' s' e'}
    {hz1 : w.view.WordExact} {hz2 : zM.view.WordExact} {hx1 : w'.view.WordExact} {hx2 : xM.view.WordExact}
    (hNz : zM.view.dmaCredit = N) (hNx : xM.view.dmaCredit = N) (hN0 : 0 < N) (Q : PP F) :
    iprop(Transfers.MayWaits (thr d L) ι₀ O ∗ fetching d L zM xM zW xW sem N fz fx 0 ∗ owes (thr d L) O W)
      ⊢ iprop((iprop(landed d L zW zM fz ∗ landed d L xW xM fx ∗ semVal (thr d L, SemLoc.dma sem) 0
            ∗ owes (thr d L) O (insert (SemLoc.dma sem, ι₀) W)) -∗ Q)
        -∗ wpT d L (Prog.lift (.waitDma2 sem w zM hz1 hz2)) fun _ =>
            wpT d L (Prog.lift (.waitDma2 sem w' xM hx1 hx2)) fun _ => Q) := by
  iintro ⟨#Hmw, HB, HO⟩ Hk
  iapply (Transfers.wp_waitBatchO countersEmb 𝒱₀ (thr d L) none ι₀ hNz (n := 2) (D := pair (landed d L zW zM fz) (landed d L xW xM fx)) (u := 0) (by omega)) $$ [HB HO]
  · isplitl [HB]; · iexact HB
    isplitl [HO]; · iexact HO
    iapply (Transfers.MayWaits.elim (SemLoc.dma sem)) $$ Hmw
  iintro ⟨HB, HO⟩
  iapply (wp_done d L _)
  iapply (Transfers.wp_waitBatchLastO countersEmb 𝒱₀ (thr d L) none ι₀ hNx hN0 (n := 2) (D := pair (landed d L zW zM fz) (landed d L xW xM fx)) (u := 0 + N) (by omega)) $$ [HB HO]
  · isplitl [HB]; · iexact HB
    isplitl [HO]; · iexact HO
    iapply (Transfers.MayWaits.elim (SemLoc.dma sem)) $$ Hmw
  rw [bigSep_univ_two, Finset.insert_idem]
  iintro ⟨⟨Hz, Hx⟩, Hs, HO⟩
  iapply (wp_done d L _)
  iapply Hk
  isplitl [Hz]; · iexact Hz
  isplitl [Hx]; · iexact Hx
  isplitl [Hs]; · iexact Hs
  iexact HO

/-- The transfer of results from `oM`, under way; `A` is what its landing delivers of the array. -/
abbrev sending (oM : Memref sig .scVector .vmem S8192 .f32) (sem : DmaSem sig) (N : ℕ) (A : PP F) : PP F :=
  Transfers.Flight (countersEmb (nD := nD) (τ := τ) (sig := sig) (Ix := HIx 1) (Val := Elt F) (Name := ℕ) (U := UU) (Lvl := ℕ)) (thr d L) (.dma sem) ι₀ N
    iprop(free d L oM ∗ A)

/-- The start of a transfer of results. -/
theorem wp_send {h1 : oM.view.WordExact} {h2 : oW.view.WordExact} {h3 : DmaTarget.Typed (nD := nD) (τ := τ) (p := .scVector (cV L) (jV L)) .vmem (.dma sem) (.here oW)}
    {y : S8192.Idx → Elt F .f32} {fo : Buf (Elt F) (oW.view.loc (thr d L))} {A : PP F}
    (hN : oW.view.amount (.dma sem) = N) (hN0 : 0 < N) (hA : pts d L oW (oW.view.write (Elt F) fo y Finset.univ) ⊢ A) (Q : PP F) :
    iprop(holds d L oM y ∗ pts d L oW fo ∗ semVal (thr d L, SemLoc.dma sem) 0)
      ⊢ iprop((sending d L oM sem N A -∗ Q)
        -∗ wpT d L (Prog.lift (.enqueueDma oM (.here oW) (.dma sem) h1 h2 h3)) fun _ => Q) := by
  unfold holds
  iintro ⟨⟨%g, %hg, Hm⟩, Ho, Hs⟩ Hk
  subst hg
  iapply (Transfers.wp_dmaLocal countersEmb 𝒱₀ (thr d L) none ι₀ N hN hN0 (Finset.Subset.refl _)) $$ [Hm Ho Hs]
  · isplitl [Hm]; · iexact Hm
    isplitl [Ho]; · iexact Ho
    iexact Hs
  iintro HF
  iapply (wp_done d L _)
  iapply Hk
  iapply (Transfers.Flight_mono countersEmb (thr d L) ?_) $$ HF
  iintro ⟨Ho, Hm⟩
  isplitl [Hm]
  · unfold free; iexists g; iexact Hm
  · iapply hA; iexact Ho

/-- The wait for a transfer of results. -/
theorem wp_sent {s : Shape} {e : EltTy} {sp : Space} {w : Memref sig .scVector sp s e} {h1 : w.view.WordExact} {h2 : oW.view.WordExact} {A : PP F}
    (hN : oW.view.dmaCredit = N) (Q : PP F) :
    iprop(Transfers.MayWaits (thr d L) ι₀ O ∗ sending d L oM sem N A ∗ owes (thr d L) O W)
      ⊢ iprop((iprop(free d L oM ∗ A ∗ semVal (thr d L, SemLoc.dma sem) 0 ∗ owes (thr d L) O (insert (SemLoc.dma sem, ι₀) W)) -∗ Q)
        -∗ wpT d L (Prog.lift (.waitDma2 sem w oW h1 h2)) fun _ => Q) := by
  iintro ⟨#Hmw, HF, HO⟩ Hk
  iapply (Transfers.wp_waitLocalO countersEmb 𝒱₀ (thr d L) none ι₀ hN) $$ [HF HO]
  · isplitl [HF]; · iexact HF
    isplitl [HO]; · iexact HO
    iapply (Transfers.MayWaits.elim (SemLoc.dma sem)) $$ Hmw
  iintro ⟨⟨Hm, HA⟩, Hs, HO⟩
  iapply (wp_done d L _)
  iapply Hk
  isplitl [Hm]; · iexact Hm
  isplitl [HA]; · iexact HA
  isplitl [Hs]; · iexact Hs
  iexact HO

/-! ## Loads, stores, checks -/

theorem wp_value {α : Type} (a : α) (Q : α → PP F) : Q a ⊢ wpT d L (Prog.ret a) Q := fupd_intro

/-- A load of a rectangle of a buffer. -/
theorem wp_get {s : Shape} {e : EltTy} {M : Memref sig .scVector .vmem s e} {x : s.Idx → Elt F e} {r : Rect s} {hl : M.view.LoadsAt r.toLoadRect}
    (Q : (r.shape.Idx → Elt F e) → PP F) :
    holds d L M x ⊢ iprop((holds d L M x -∗ Q fun i => x (r.emb i)) -∗ wpT d L (Prog.lift (.load M r.toLoadRect hl)) Q) := by
  unfold holds
  iintro ⟨%f, %hf, H⟩ Hk
  subst hf
  iapply (wp_load_rect 𝒱₀ (thr d L) none Set.univ (m := M) (r := r) (View.set_slice_subset M.view r)) $$ H
  iintro H
  iapply (wp_value d L _ _)
  rw [show (M.access r).read (Elt F) f = fun i => M.view.read (Elt F) f (r.emb i) from rfl]
  iapply Hk
  iexists f; isplitr
  · ipureintro; rfl
  · iexact H

/-- A load of a buffer's elements at one index vector. -/
theorem wp_look {M : Memref sig .scVector .vmem S16 .f32} {x : S16.Idx → Elt F .f32} {w : Vec F S16 .i32}
    {h : ∀ a i, ((![w] : Fin 1 → IVec S16 32) a i).toNat < S16.size a} {hl : M.view.Loads} (Q : Vec F S16 .f32 → PP F) :
    holds d L M x ⊢ iprop((holds d L M x -∗ Q (loadIdx x ![w] h)) -∗ wpT d L (SparseCore.vectorLoadIdx M ![w] h hl) Q) := by
  unfold holds
  iintro ⟨%f, %hf, H⟩ Hk
  subst hf
  iapply (wp_load_rect 𝒱₀ (thr d L) none Set.univ (m := M) (r := Rect.whole S16) (k := fun f => Prog.ret (loadIdx f ![w] h))
    (View.set_slice_subset M.view _)) $$ H
  iintro H
  iapply (wp_value d L _ _)
  rw [show (M.access (Rect.whole S16)).read (Elt F) f = M.view.read (Elt F) f from
    funext fun i => congrArg (fun j => M.view.read (Elt F) f j) (Rect.emb_whole_apply _ i)]
  iapply Hk
  iexists f; isplitr
  · ipureintro; rfl
  · iexact H

/-- A store over a rectangle of a buffer, the buffer named by its contents. -/
theorem wp_put {s : Shape} {e : EltTy} {M : Memref sig .scVector .vmem s e} {f : Buf (Elt F) (M.view.loc (thr d L))} {r : Rect s}
    {y : r.shape.Idx → Elt F e} {hx : (M.access r).Stores Finset.univ} {hm : Finset.univ = (Finset.univ : Finset r.shape.Idx) ∨ ∀ a, r.stride a = 1} (Q : PP F) :
    pts d L M f ⊢ iprop((pts d L M ((M.view.slice r).write (Elt F) f y Finset.univ) -∗ Q)
      -∗ wpT d L (Prog.lift (.store M r y Finset.univ hx hm)) fun _ => Q) := by
  iintro H Hk
  iapply (wp_store 𝒱₀ (thr d L) none Set.univ (m := M) (r := r) (View.set_slice_subset M.view r)) $$ H
  iintro H
  iapply (wp_value d L _ _)
  iapply Hk; iexact H

/-- A check that passes. -/
theorem wp_check {P : Prop} {dp : Decidable P} (h : P) (Q : PLift P → PP F) : Q ⟨h⟩ ⊢ wpT d L (Prog.lift (.assume P dp)) Q := by
  refine BIBase.Entails.trans ?_ (wp_assume 𝒱₀ (thr d L) none Set.univ (k := Prog.ret) h)
  exact fupd_intro

end Rules

end Cert.Proof.Mix

end
-- ==== Proof.Lanes.lean ====
/-
  One chunk of results, sixteen at a time.

  Trip `k` of the inner loop reads the sixteen indices and the sixteen points that begin at `16 * k`, looks the indices
  up in the three tables, and stores sixteen results. After it the first `16 * (k + 1)` elements of the result buffer
  hold the chunk's values (`chunkVal`). The four inner loops of the kernel differ only in the buffers they use.
-/
module

public import proofs.«01_k».proof.Proof.Mem

@[expose] public section

noncomputable section

namespace Cert.Proof.Mix

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The value of one element -/

/-- The result at a point `x`, from the constant, the mean and the reciprocal deviation of its component. -/
def laneVal (x k mu si : F .f32) : F .f32 :=
  FloatOps.subf k (FloatOps.mulf (FloatOps.mulf (Scalar.ofBits .f32 0x3F000000#32) (FloatOps.mulf (FloatOps.subf x mu) si))
    (FloatOps.mulf (FloatOps.subf x mu) si))

theorem pay_eq (x k mu si : Vec F S16 .f32) (i : S16.Idx) : k0_pay2 x k mu si i = laneVal (x i) (k i) (mu i) (si i) := rfl

/-- Element `w` of a table of sixteen. -/
def at16 (w : BitVec 32) : S16.Idx := fun a => ⟨w.toNat % 16, match a with | 0 => Nat.mod_lt _ (by decide)⟩

/-- A chunk's results. -/
def chunkVal (tk tm ts : S16.Idx → Elt F .f32) (z : S8192.Idx → Elt F .i32) (x : S8192.Idx → Elt F .f32) : S8192.Idx → Elt F .f32 :=
  fun j => laneVal (x j) (tk (at16 (z j))) (tm (at16 (z j))) (ts (at16 (z j)))

/-- A lookup at indices below sixteen. -/
theorem look_eq (t : S16.Idx → Elt F .f32) (w : Vec F S16 .i32) (h : ∀ a i, ((![w] : Fin 1 → IVec S16 32) a i).toNat < S16.size a) (i : S16.Idx) :
    loadIdx t ![w] h i = t (at16 (w i)) := by
  refine congrArg t (funext fun a => Fin.ext ?_)
  match a with
  | 0 => exact (Nat.mod_eq_of_lt (h 0 i)).symm

/-- The sixteen elements trip `k` reads and stores. -/
abbrev lanes (k : Fin k0_t2_loop.trips) : Rect S8192 := Rect.unit (s := S8192) (k0_off4 k) S16.size (k0_off4_inb k)

theorem lanes_emb (k : Fin k0_t2_loop.trips) (i : S16.Idx) : ((lanes k).emb i 0 : ℕ) = 16 * k.val + (i 0 : ℕ) := by
  rw [Rect.emb_apply]
  show k0_off4 k 0 + 1 * (i 0 : ℕ) = _
  rw [k0_off4_eq, Nat.one_mul]; rfl

theorem mem_lanes (k : Fin k0_t2_loop.trips) (j : S8192.Idx) (h : 16 * k.val ≤ (j 0 : ℕ)) (h' : (j 0 : ℕ) < 16 * (k.val + 1)) :
    ∃ i : S16.Idx, (lanes k).emb i = j := by
  refine ⟨fun a => ⟨(j 0 : ℕ) - 16 * k.val, ?_⟩, funext fun a => Fin.ext ?_⟩
  · match a with
    | 0 => show (j 0 : ℕ) - 16 * k.val < 16; omega
  · match a with
    | 0 =>
      rw [lanes_emb]
      show 16 * k.val + ((j 0 : ℕ) - 16 * k.val) = (j 0 : ℕ)
      omega

theorem lanes_below (k : Fin k0_t2_loop.trips) (j : S8192.Idx) (h : (j 0 : ℕ) < 16 * k.val) :
    j ∉ (Finset.univ : Finset S16.Idx).map (lanes k).emb := by
  intro hm
  obtain ⟨i, -, hi⟩ := Finset.mem_map.mp hm
  have := lanes_emb k i
  rw [hi] at this
  omega

/-! ## The inner loop -/

section Loop

variable (d : Dev nD) (L : grid0.Coords)
variable (kM muM siM : Memref sig .scVector .vmem S16 .f32) (tk tm ts : S16.Idx → Elt F .f32)
variable (zM : Memref sig .scVector .vmem S8192 .i32) (xM oM : Memref sig .scVector .vmem S8192 .f32)

/-- One trip of an inner loop. -/
def laneBody : Fin k0_t2_loop.trips → Unit → Prog (TpuEff nD τ sig (Elt F) Λ₀ (.scVector (cV L) (jV L))) Unit :=
  fun k _ => do
    let v : Vec F S16 .i32 ← Prog.lift (.load zM (Rect.unit (s := S8192) (k0_off4 k) S16.size (k0_off4_inb k)).toLoadRect (View.loadsAt_vmem h_S16))
    have hw : k0_chk1 v := (← Prog.lift (TpuEff.assume (k0_chk1 v) (k0_chk1.dec v))).down
    let x : Vec F S16 .f32 ← Prog.lift (.load xM (Rect.unit (s := S8192) (k0_off4 k) S16.size (k0_off4_inb k)).toLoadRect (View.loadsAt_vmem h_S16))
    let c : Vec F S16 .f32 ← SparseCore.vectorLoadIdx kM ![v] (k0_idx1_inb v hw) (View.loads_vmem h_S16)
    let mu : Vec F S16 .f32 ← SparseCore.vectorLoadIdx muM ![v] (k0_idx2_inb v hw) (View.loads_vmem h_S16)
    let si : Vec F S16 .f32 ← SparseCore.vectorLoadIdx siM ![v] (k0_idx3_inb v hw) (View.loads_vmem h_S16)
    let _ : Vec F S16 .f32 ← Prog.lift (.load oM (Rect.unit (s := S8192) (k0_off4 k) S16.size (k0_off4_inb k)).toLoadRect (View.loadsAt_vmem h_S16))
    Prog.lift (.store oM (Rect.unit (s := S8192) (k0_off4 k) S16.size (k0_off4_inb k)) (k0_pay2 x c mu si) Finset.univ (View.stores_vmem_bits_univ h_S16 rfl) (.inl rfl))
    pure ⟨⟩

/-- The tables as the inner loops read them. -/
def tabs : PP F := iprop(holds d L kM tk ∗ holds d L muM tm ∗ holds d L siM ts)

variable (z : S8192.Idx → Elt F .i32) (x : S8192.Idx → Elt F .f32)

/-- The result buffer with its first `16 * k` elements computed. -/
def filled (k : ℕ) : PP F :=
  iprop(∃ y, ⌜∀ j, (j 0 : ℕ) < 16 * k → y j = chunkVal tk tm ts z x j⌝ ∗ holds d L oM y)

theorem filled_holds (k : ℕ) : filled d L tk tm ts oM z x k
    ⊢ iprop(∃ y, ⌜∀ j, (j 0 : ℕ) < 16 * k → y j = chunkVal tk tm ts z x j⌝ ∗ holds d L oM y) := .rfl

/-- What trip `k` of an inner loop starts from. -/
def inner (k : ℕ) : PP F := iprop(holds d L zM z ∗ holds d L xM x ∗ tabs d L kM muM siM tk tm ts ∗ filled d L tk tm ts oM z x k)

theorem step_filled (k : Fin k0_t2_loop.trips) (f : Buf (Elt F) (oM.view.loc (thr d L)))
    (hf : ∀ j, (j 0 : ℕ) < 16 * k.val → oM.view.read (Elt F) f j = chunkVal tk tm ts z x j) (y : Vec F S16 .f32)
    (hy : ∀ i, y i = chunkVal tk tm ts z x ((lanes k).emb i)) :
    pts d L oM ((oM.view.slice (lanes k)).write (Elt F) f y Finset.univ) ⊢ filled d L tk tm ts oM z x (k.val + 1) := by
  unfold filled
  iintro H
  iexists (oM.view.read (Elt F) ((oM.view.slice (lanes k)).write (Elt F) f y Finset.univ))
  isplitr
  · ipureintro
    intro j hj
    rcases Nat.lt_or_ge (j 0 : ℕ) (16 * k.val) with hlt | hge
    · exact (View.read_slice_write_of_not_mem (v := oM.view) (lanes k) f y Finset.univ (lanes_below k j hlt)).trans (hf j hlt)
    · obtain ⟨i, rfl⟩ := mem_lanes k j hge hj
      exact (View.read_slice_write_emb (v := oM.view) (lanes k) f y (Finset.mem_univ i)).trans (hy i)
  · iapply (holds_of_pts d L oM rfl) $$ H

theorem inner_step (hz : ∀ j, (z j).toNat < 16) (k : Fin k0_t2_loop.trips) (acc : Unit) :
    inner d L kM muM siM tk tm ts zM xM oM z x k.val
      ⊢ wpT d L (laneBody L kM muM siM zM xM oM k acc) fun _ => inner d L kM muM siM tk tm ts zM xM oM z x (k.val + 1) := by
  unfold inner tabs laneBody
  simp only [wp_bind, wp_pure]
  iintro ⟨Hz, Hx, ⟨Hk, Hm, Hs⟩, Ho⟩
  iapply (wp_get d L _) $$ Hz
  iintro Hz
  iapply (wp_check d L (P := k0_chk1 fun i => z ((lanes k).emb i)) (by
    have h : ∀ a i, ((![fun i => z ((lanes k).emb i)] : Fin 1 → IVec S16 32) a i).toNat < S16.size a := fun a i => by
      match a with
      | 0 => exact hz _
    exact ⟨h, h, h⟩) _)
  iapply (wp_get d L _) $$ Hx
  iintro Hx
  iapply (wp_look d L _) $$ Hk
  iintro Hk
  iapply (wp_look d L _) $$ Hm
  iintro Hm
  iapply (wp_look d L _) $$ Hs
  iintro Hs
  ihave Ho := (filled_holds d L tk tm ts oM z x k.val) $$ Ho
  icases Ho with ⟨%y, %hy, Ho⟩
  iapply (wp_get d L _) $$ Ho
  iintro Ho
  ihave Ho := (holds_pts d L oM y) $$ Ho
  icases Ho with ⟨%f, %hf, Ho⟩
  subst hf
  iapply (wp_put d L _) $$ Ho
  iintro Ho
  iapply fupd_intro
  isplitl [Hz]; · iexact Hz
  isplitl [Hx]; · iexact Hx
  isplitl [Hk Hm Hs]
  · isplitl [Hk]; · iexact Hk
    isplitl [Hm]; · iexact Hm
    iexact Hs
  iapply (step_filled d L tk tm ts oM z x k f hy _ fun i => ?_) $$ Ho
  rw [pay_eq, look_eq, look_eq, look_eq]; rfl

theorem inner_loop (hz : ∀ j, (z j).toNat < 16) (Q : PP F) :
    iprop(holds d L zM z ∗ holds d L xM x ∗ tabs d L kM muM siM tk tm ts ∗ free d L oM)
      ⊢ iprop(((holds d L zM z ∗ holds d L xM x ∗ tabs d L kM muM siM tk tm ts ∗ holds d L oM (chunkVal tk tm ts z x)) -∗ Q)
        -∗ wpT d L (Scf.Loop.for k0_t2_loop k0_t2_ok ⟨⟩ (laneBody L kM muM siM zM xM oM)) fun _ => Q) := by
  iintro ⟨Hz, Hx, Ht, Ho⟩ Hk
  ihave Ho := (free_pts d L oM) $$ Ho
  icases Ho with ⟨%f, Ho⟩
  iapply (Scf.wp_for frame (wpE (defs₀ (F := F)) 𝒱₀ (thr d L) none) Set.univ k0_t2_loop.lb k0_t2_loop.ub k0_t2_loop.st k0_t2_ok ⟨⟩ _
    (fun k _ => inner d L kM muM siM tk tm ts zM xM oM z x k)
    (fun k acc => inner_step d L kM muM siM tk tm ts zM xM oM z x hz k acc))
  isplitl [Hz Hx Ht Ho]
  · unfold inner
    isplitl [Hz]; · iexact Hz
    isplitl [Hx]; · iexact Hx
    isplitl [Ht]; · iexact Ht
    unfold filled
    iexists (oM.view.read (Elt F) f)
    isplitr
    · ipureintro
      intro j hj; exact absurd hj (by omega)
    · iapply (holds_of_pts d L oM rfl) $$ Ho
  iintro %acc H
  unfold inner filled
  icases H with ⟨Hz, Hx, Ht, %y, %hy, Ho⟩
  iapply Hk
  isplitl [Hz]; · iexact Hz
  isplitl [Hx]; · iexact Hx
  isplitl [Ht]; · iexact Ht
  rw [show y = chunkVal tk tm ts z x from funext fun j => hy j (by
    have : (j 0 : ℕ) < 8192 := (j 0).isLt
    rw [show Scf.trips k0_t2_loop.lb k0_t2_loop.ub k0_t2_loop.st = 512 by decide]; omega)]
  iexact Ho

end Loop

end Cert.Proof.Mix

end
-- ==== Proof.Step.lean ====
/-
  One step of a tile: buffer `b` in trip `t`.

  A step waits for its chunk's indices and points, waits until the result buffer of the trip before has left, computes
  the chunk, starts the transfer of the results, and starts the transfers that fetch the chunk of the next trip into the
  two buffers it has just read. `inSt n` and `outSt n` are what is owned of the buffer's arrays, buffers and semaphores
  before trip `n`: the fetch of chunk `n` is under way, and so is the transfer out of chunk `n - 1`.
-/
module

public import proofs.«01_k».proof.Proof.Lanes

@[expose] public section

noncomputable section

namespace Cert.Proof.Mix

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## All but one of four -/

/-- All the propositions but number `n`. -/
def others (Φ : Fin 4 → PP F) (n : ℕ) : PP F := bigSep (Finset.univ.filter fun t : Fin 4 => t.val ≠ n) Φ

theorem all_eq (Φ : Fin 4 → PP F) (t : Fin 4) : bigSep Finset.univ Φ = iprop(Φ t ∗ others Φ t.val) := by
  unfold others
  rw [SparseCore.bigSep_erase' (Finset.mem_univ t)]
  congr 2
  ext i
  simp [Fin.ext_iff]

theorem others_congr {Φ Ψ : Fin 4 → PP F} {n : ℕ} (h : ∀ t : Fin 4, t.val ≠ n → Φ t = Ψ t) : others Φ n = others Ψ n := by
  unfold others
  exact bigSep_congr fun t ht => h t (Finset.mem_filter.mp ht).2

/-! ## What is owned -/

/-- What a transfer of a chunk counts for. -/
abbrev NN : ℕ := sig.dmaCredit .scVector (Kind.scVector.table .hbm) (main_v0_scv : Ref sig .scVector).idx S8192 .f32

theorem NN_pos : 0 < NN := sig.dmaCredit_pos _ _ _ _ _ (by decide)

variable (d : Dev nD) (L : grid0.Coords)
variable (kM muM siM : Memref sig .scVector .vmem S16 .f32) (tk tm ts : S16.Idx → Elt F .f32)
variable (z0 : S4194304.Idx → Elt F .i32) (x0 o0 : S4194304.Idx → Elt F .f32)

/-- The whole result. -/
def resVal : S4194304.Idx → Elt F .f32 := fun i => laneVal (x0 i) (tk (at16 (z0 i))) (tm (at16 (z0 i))) (ts (at16 (z0 i)))

variable (b : Fin 4)

abbrev zAt (t : Fin 4) : PP F := pts d L (chunk zA L t b) z0
abbrev xAt (t : Fin 4) : PP F := pts d L (chunk xA L t b) x0
abbrev doneAt (t : Fin 4) : PP F := pts d L (chunk oA L t b) (resVal tk tm ts z0 x0)

/-- The result's chunks before trip `n`: those of the trips before computed. -/
def oAt (n : ℕ) (t : Fin 4) : PP F := if t.val < n then doneAt d L tk tm ts z0 x0 b t else pts d L (chunk oA L t b) o0

theorem oAt_lt {d : Dev nD} {L : grid0.Coords} {tk tm ts : S16.Idx → Elt F .f32} {z0 : S4194304.Idx → Elt F .i32}
    {x0 o0 : S4194304.Idx → Elt F .f32} {b : Fin 4} {n : ℕ} {t : Fin 4} (h : t.val < n) : oAt d L tk tm ts z0 x0 o0 b n t = doneAt d L tk tm ts z0 x0 b t := if_pos h

theorem oAt_ge {d : Dev nD} {L : grid0.Coords} {tk tm ts : S16.Idx → Elt F .f32} {z0 : S4194304.Idx → Elt F .i32}
    {x0 o0 : S4194304.Idx → Elt F .f32} {b : Fin 4} {n : ℕ} {t : Fin 4} (h : n ≤ t.val) : oAt d L tk tm ts z0 x0 o0 b n t = pts d L (chunk oA L t b) o0 :=
  if_neg (Nat.not_lt.mpr h)

theorem others_oAt {d : Dev nD} {L : grid0.Coords} {tk tm ts : S16.Idx → Elt F .f32} {z0 : S4194304.Idx → Elt F .i32}
    {x0 o0 : S4194304.Idx → Elt F .f32} {b : Fin 4} (t : Fin 4) :
    others (oAt d L tk tm ts z0 x0 o0 b (t.val + 1)) t.val = others (oAt d L tk tm ts z0 x0 o0 b t.val) t.val := by
  refine others_congr fun t' ht' => ?_
  rcases Nat.lt_or_ge t'.val t.val with h | h
  · rw [oAt_lt h, oAt_lt (Nat.lt_succ_of_lt h)]
  · rw [oAt_ge h, oAt_ge (by omega)]

/-- What the transfer out of trip `n` delivers. -/
def sentAt (n : ℕ) : PP F := if h : n < 4 then doneAt d L tk tm ts z0 x0 b ⟨n, h⟩ else iprop(emp)

variable (zM : Memref sig .scVector .vmem S8192 .i32) (xM oM : Memref sig .scVector .vmem S8192 .f32) (inS outS : DmaSem sig)

/-- The indices and the points before trip `n`. -/
def inSt (n : ℕ) : PP F :=
  if h : n < 4 then
    iprop(fetching d L zM xM (chunk zA L ⟨n, h⟩ b) (chunk xA L ⟨n, h⟩ b) inS NN z0 x0 0 ∗ others (zAt d L z0 b) n ∗ others (xAt d L x0 b) n)
  else
    iprop(free d L zM ∗ free d L xM ∗ semVal (thr d L, SemLoc.dma inS) 0 ∗ bigSep Finset.univ (zAt d L z0 b) ∗ bigSep Finset.univ (xAt d L x0 b))

/-- The results before trip `n`. -/
def outSt : ℕ → PP F
  | 0 => iprop(free d L oM ∗ semVal (thr d L, SemLoc.dma outS) 0 ∗ bigSep Finset.univ (oAt d L tk tm ts z0 x0 o0 b 0))
  | n + 1 => iprop(sending d L oM outS NN (sentAt d L tk tm ts z0 x0 b n) ∗ others (oAt d L tk tm ts z0 x0 o0 b (n + 1)) n)

/-- A step's chunk in the buffers. -/
def got (t : Fin 4) : PP F :=
  iprop(landed d L (chunk zA L t b) zM z0 ∗ landed d L (chunk xA L t b) xM x0 ∗ semVal (thr d L, SemLoc.dma inS) 0
    ∗ others (zAt d L z0 b) t ∗ others (xAt d L x0 b) t)

/-- The result buffer with no transfer out of it under way. -/
def ready (n : ℕ) : PP F :=
  iprop(free d L oM ∗ semVal (thr d L, SemLoc.dma outS) 0 ∗ bigSep Finset.univ (oAt d L tk tm ts z0 x0 o0 b n))

theorem outSt_zero : outSt d L tk tm ts z0 x0 o0 b oM outS 0 = ready d L tk tm ts z0 x0 o0 b oM outS 0 := rfl

variable (O : CellTallies nD τ sig (HIx 1)) (W : Waits sig (HIx 1))

/-- The waits made so far. -/
def waited : PP F := iprop(∃ W', ⌜∀ p ∈ W', p ∈ W ∨ p.2 = none⌝ ∗ owes (thr d L) O W')

theorem waited_owes : waited (F := F) d L O W ⊢ iprop(∃ W', ⌜∀ p ∈ W', p ∈ W ∨ p.2 = none⌝ ∗ owes (thr d L) O W') := .rfl

theorem owes_waited {W' : Waits sig (HIx 1)} (h : ∀ p ∈ W', p ∈ W ∨ p.2 = none) (s : SemLoc sig) :
    owes (thr d L) O (insert (s, ι₀) W') ⊢ waited (F := F) d L O W := by
  unfold waited
  iintro H
  iexists (insert (s, ι₀) W')
  isplitr
  · ipureintro
    intro p hp
    rcases Finset.mem_insert.mp hp with rfl | hp
    · exact Or.inr rfl
    · exact h p hp
  · iexact H

/-! ## The transfers of a chunk -/

section Chunks

variable {zM xM oM inS outS d L z0 x0 o0 tk tm ts b}

/-- The start of the fetch of chunk `(t, b)`. -/
theorem wp_fetch_chunk (t : Fin 4) {zW : Memref sig .scVector .hbm S8192 .i32} {xW : Memref sig .scVector .hbm S8192 .f32}
    (ez : zW = chunk zA L t b) (ex : xW = chunk xA L t b)
    {hz1 : zW.view.WordExact} {hz2 : zM.view.WordExact} {hz3 : DmaTarget.Typed (nD := nD) (τ := τ) (p := .scVector (cV L) (jV L)) .hbm (.dma inS) (.here zM)}
    {hx1 : xW.view.WordExact} {hx2 : xM.view.WordExact} {hx3 : DmaTarget.Typed (nD := nD) (τ := τ) (p := .scVector (cV L) (jV L)) .hbm (.dma inS) (.here xM)}
    (Q : PP F) :
    iprop(zAt d L z0 b t ∗ xAt d L x0 b t ∗ free d L zM ∗ free d L xM ∗ semVal (thr d L, SemLoc.dma inS) 0)
      ⊢ iprop((fetching d L zM xM (chunk zA L t b) (chunk xA L t b) inS NN z0 x0 0 -∗ Q)
        -∗ wpT d L (Prog.lift (.enqueueDma zW (.here zM) (.dma inS) hz1 hz2 hz3)) fun _ =>
            wpT d L (Prog.lift (.enqueueDma xW (.here xM) (.dma inS) hx1 hx2 hx3)) fun _ => Q) := by
  subst ez ex
  exact wp_fetch d L (N := NN) rfl rfl Q

/-- The same, its chunk taken from all of the buffer's chunks. -/
theorem wp_fetch_next (t : Fin 4) {zW : Memref sig .scVector .hbm S8192 .i32} {xW : Memref sig .scVector .hbm S8192 .f32}
    (ez : zW = chunk zA L t b) (ex : xW = chunk xA L t b)
    {hz1 : zW.view.WordExact} {hz2 : zM.view.WordExact} {hz3 : DmaTarget.Typed (nD := nD) (τ := τ) (p := .scVector (cV L) (jV L)) .hbm (.dma inS) (.here zM)}
    {hx1 : xW.view.WordExact} {hx2 : xM.view.WordExact} {hx3 : DmaTarget.Typed (nD := nD) (τ := τ) (p := .scVector (cV L) (jV L)) .hbm (.dma inS) (.here xM)}
    (Q : PP F) :
    iprop(bigSep Finset.univ (zAt d L z0 b) ∗ bigSep Finset.univ (xAt d L x0 b) ∗ free d L zM ∗ free d L xM ∗ semVal (thr d L, SemLoc.dma inS) 0)
      ⊢ iprop((inSt d L z0 x0 b zM xM inS t.val -∗ Q)
        -∗ wpT d L (Prog.lift (.enqueueDma zW (.here zM) (.dma inS) hz1 hz2 hz3)) fun _ =>
            wpT d L (Prog.lift (.enqueueDma xW (.here xM) (.dma inS) hx1 hx2 hx3)) fun _ => Q) := by
  rw [all_eq (zAt d L z0 b) t, all_eq (xAt d L x0 b) t]
  iintro ⟨⟨Hz, Hz'⟩, ⟨Hx, Hx'⟩, Hm⟩ Hk
  iapply (wp_fetch_chunk t ez ex _) $$ [Hz Hx Hm]
  · isplitl [Hz]; · iexact Hz
    isplitl [Hx]; · iexact Hx
    iexact Hm
  iintro H
  iapply Hk
  unfold inSt
  rw [dif_pos t.isLt]
  isplitl [H]; · iexact H
  isplitl [Hz']; · iexact Hz'
  iexact Hx'

/-- What the transfer of a chunk's values leaves of the result. -/
theorem write_chunk (t : Fin 4) :
    pts d L (chunk oA L t b) ((chunk oA L t b).view.write (Elt F) o0
        (chunkVal tk tm ts ((chunk zA L t b).view.read (Elt F) z0) ((chunk xA L t b).view.read (Elt F) x0)) Finset.univ)
      ⊢ sentAt d L tk tm ts z0 x0 b t.val := by
  unfold sentAt
  rw [dif_pos t.isLt]
  refine Entails.of_eq (pointsTo_congr fun i hi => ?_)
  obtain ⟨j, -, rfl⟩ := Finset.mem_map.mp hi
  exact View.write_emb_of_mem _ _ (Finset.mem_univ j)

/-- The start of the transfer of chunk `(t, b)`'s results. -/
theorem wp_send_chunk (t : Fin 4) {oW : Memref sig .scVector .hbm S8192 .f32} (eo : oW = chunk oA L t b)
    {h1 : oM.view.WordExact} {h2 : oW.view.WordExact} {h3 : DmaTarget.Typed (nD := nD) (τ := τ) (p := .scVector (cV L) (jV L)) .vmem (.dma outS) (.here oW)}
    (Q : PP F) :
    iprop(holds d L oM (chunkVal tk tm ts ((chunk zA L t b).view.read (Elt F) z0) ((chunk xA L t b).view.read (Elt F) x0))
        ∗ semVal (thr d L, SemLoc.dma outS) 0 ∗ bigSep Finset.univ (oAt d L tk tm ts z0 x0 o0 b t.val))
      ⊢ iprop((outSt d L tk tm ts z0 x0 o0 b oM outS (t.val + 1) -∗ Q)
        -∗ wpT d L (Prog.lift (.enqueueDma oM (.here oW) (.dma outS) h1 h2 h3)) fun _ => Q) := by
  subst eo
  rw [all_eq (oAt d L tk tm ts z0 x0 o0 b t.val) t, oAt_ge (le_refl t.val)]
  iintro ⟨Hm, Hs, ⟨Ho, Ho'⟩⟩ Hk
  iapply (wp_send d L (oW := chunk oA L t b) (fo := o0) (N := NN) (A := sentAt d L tk tm ts z0 x0 b t.val) rfl NN_pos (write_chunk t) _) $$ [Hm Hs Ho]
  · isplitl [Hm]; · iexact Hm
    isplitl [Ho]; · iexact Ho
    iexact Hs
  iintro H
  iapply Hk
  unfold outSt
  isplitl [H]; · iexact H
  rw [others_oAt t]
  iexact Ho'

/-- What the end of the transfer out of the trip before gives back. -/
theorem sent_all (n : ℕ) (hn : n < 4) :
    iprop(sentAt d L tk tm ts z0 x0 b n ∗ others (oAt d L tk tm ts z0 x0 o0 b (n + 1)) n)
      = bigSep Finset.univ (oAt d L tk tm ts z0 x0 o0 b (n + 1)) := by
  rw [all_eq (oAt d L tk tm ts z0 x0 o0 b (n + 1)) ⟨n, hn⟩]
  congr 1
  unfold sentAt
  rw [dif_pos hn, oAt_lt (Nat.lt_succ_self n)]

/-- The wait for the transfer out of trip `n`. -/
theorem wp_sent_chunk (n : ℕ) (hn : n < 4) {s : Shape} {e : EltTy} {sp : Space} {w : Memref sig .scVector sp s e}
    {oW : Memref sig .scVector .hbm S8192 .f32}
    {h1 : w.view.WordExact} {h2 : oW.view.WordExact} (Q : PP F) :
    iprop(Transfers.MayWaits (thr d L) ι₀ O ∗ outSt d L tk tm ts z0 x0 o0 b oM outS (n + 1) ∗ waited d L O W)
      ⊢ iprop(((ready d L tk tm ts z0 x0 o0 b oM outS (n + 1) ∗ waited d L O W) -∗ Q)
        -∗ wpT d L (Prog.lift (.waitDma2 outS w oW h1 h2)) fun _ => Q) := by
  unfold outSt ready
  rw [← sent_all n hn]
  iintro ⟨Hmw, ⟨HF, Ho⟩, HW⟩ Hk
  ihave HW := (waited_owes d L O W) $$ HW
  icases HW with ⟨%W', %hW', HO⟩
  iapply (wp_sent d L (N := NN) rfl _) $$ [Hmw HF HO]
  · isplitl [Hmw]; · iexact Hmw
    isplitl [HF]; · iexact HF
    iexact HO
  iintro ⟨Hm, HA, Hs, HO⟩
  iapply Hk
  isplitl [Hm Hs HA Ho]
  · isplitl [Hm]; · iexact Hm
    isplitl [Hs]; · iexact Hs
    isplitl [HA]; · iexact HA
    iexact Ho
  iapply (owes_waited d L O W hW' _) $$ HO

variable {α : Type} (K : Prog (TpuEff nD τ sig (Elt F) Λ₀ (thr d L).2) α) (R : α → PP F)

/-- A step's chunk arrives. -/
theorem step_wait (t : Fin 4) {s s' : Shape} {e e' : EltTy} {sp sp' : Space} {w : Memref sig .scVector sp s e} {w' : Memref sig .scVector sp' s' e'}
    {hz1 : w.view.WordExact} {hz2 : zM.view.WordExact} {hx1 : w'.view.WordExact} {hx2 : xM.view.WordExact} :
    iprop(Transfers.MayWaits (thr d L) ι₀ O ∗ inSt d L z0 x0 b zM xM inS t.val ∗ waited d L O W)
      ⊢ iprop(((got d L z0 x0 b zM xM inS t ∗ waited d L O W) -∗ wpT d L K R)
        -∗ wpT d L (Prog.lift (.waitDma2 inS w zM hz1 hz2) >>= fun _ => Prog.lift (.waitDma2 inS w' xM hx1 hx2) >>= fun _ => K) R) := by
  unfold inSt
  simp only [dif_pos t.isLt, wpT_bind]
  iintro ⟨#Hmw, ⟨HB, Hz', Hx'⟩, HW⟩ Hk
  ihave HW := (waited_owes d L O W) $$ HW
  icases HW with ⟨%W', %hW', HO⟩
  iapply (wp_await d L (N := NN) rfl rfl NN_pos _) $$ [HB HO]
  · isplitr; · iexact Hmw
    isplitl [HB]; · iexact HB
    iexact HO
  iintro ⟨Hz, Hx, Hs, HO⟩
  iapply Hk
  isplitr [HO]
  · unfold got
    isplitl [Hz]; · iexact Hz
    isplitl [Hx]; · iexact Hx
    isplitl [Hs]; · iexact Hs
    isplitl [Hz']; · iexact Hz'
    iexact Hx'
  iapply (owes_waited d L O W hW' _) $$ HO

/-- From the second trip on, the transfer out of the trip before ends. -/
theorem step_drain (t : Fin 4) {c : Prop} [Decidable c] (hc : c ↔ 1 ≤ t.val) {wR : c → Memref sig .scVector .hbm S8192 .f32}
    {h1 : c → oM.view.WordExact} {h2 : ∀ h, (wR h).view.WordExact} :
    iprop(Transfers.MayWaits (thr d L) ι₀ O ∗ outSt d L tk tm ts z0 x0 o0 b oM outS t.val ∗ waited d L O W)
      ⊢ iprop(((ready d L tk tm ts z0 x0 o0 b oM outS t.val ∗ waited d L O W) -∗ wpT d L K R)
        -∗ wpT d L (if h : c then (Prog.lift (.waitDma2 outS oM (wR h) (h1 h) (h2 h)) >>= fun _ => K) else K) R) := by
  by_cases h : c
  · obtain ⟨n, hn⟩ : ∃ n, t.val = n + 1 := ⟨t.val - 1, by have := hc.mp h; omega⟩
    simp only [dif_pos h, hn, wpT_bind]
    exact wp_sent_chunk O W n (by omega) _
  · have hn : t.val = 0 := by
      by_contra h0
      exact h (hc.mpr (by omega))
    simp only [dif_neg h, hn, outSt_zero]
    iintro ⟨-, Ho, HW⟩ Hk
    iapply Hk
    isplitl [Ho]; · iexact Ho
    iexact HW

variable {kM muM siM}

/-- A step's chunk computed, the transfer of the results started, and but for the last trip the next fetch. -/
theorem step_out (t : Fin 4) (hz : ∀ i, (z0 i).toNat < 16) {lp : Prog (TpuEff nD τ sig (Elt F) Λ₀ (thr d L).2) Unit}
    (hlp : lp = Scf.Loop.for k0_t2_loop k0_t2_ok ⟨⟩ (laneBody L kM muM siM zM xM oM))
    {oW : Memref sig .scVector .hbm S8192 .f32} (eo : oW = chunk oA L t b)
    {h1 : oM.view.WordExact} {h2 : oW.view.WordExact} {h3 : DmaTarget.Typed (nD := nD) (τ := τ) (p := .scVector (cV L) (jV L)) .vmem (.dma outS) (.here oW)}
    {c : Prop} [Decidable c] (hc : c ↔ t.val + 1 < 4)
    {zR : c → Memref sig .scVector .hbm S8192 .i32} {xR : c → Memref sig .scVector .hbm S8192 .f32}
    (ez : ∀ h h', zR h = chunk zA L ⟨t.val + 1, h'⟩ b) (ex : ∀ h h', xR h = chunk xA L ⟨t.val + 1, h'⟩ b)
    {hz1 : ∀ h, (zR h).view.WordExact} {hz2 : c → zM.view.WordExact}
    {hz3 : ∀ _ : c, DmaTarget.Typed (nD := nD) (τ := τ) (p := .scVector (cV L) (jV L)) .hbm (.dma inS) (.here zM)}
    {hx1 : ∀ h, (xR h).view.WordExact} {hx2 : c → xM.view.WordExact}
    {hx3 : ∀ _ : c, DmaTarget.Typed (nD := nD) (τ := τ) (p := .scVector (cV L) (jV L)) .hbm (.dma inS) (.here xM)} :
    iprop(got d L z0 x0 b zM xM inS t ∗ ready d L tk tm ts z0 x0 o0 b oM outS t.val ∗ tabs d L kM muM siM tk tm ts)
      ⊢ iprop(((inSt d L z0 x0 b zM xM inS (t.val + 1) ∗ outSt d L tk tm ts z0 x0 o0 b oM outS (t.val + 1) ∗ tabs d L kM muM siM tk tm ts) -∗ wpT d L K R)
        -∗ wpT d L (lp >>= fun _ => Prog.lift (.enqueueDma oM (.here oW) (.dma outS) h1 h2 h3) >>= fun _ =>
            if h : c then (Prog.lift (.enqueueDma (zR h) (.here zM) (.dma inS) (hz1 h) (hz2 h) (hz3 h)) >>= fun _ =>
                Prog.lift (.enqueueDma (xR h) (.here xM) (.dma inS) (hx1 h) (hx2 h) (hx3 h)) >>= fun _ => K)
              else K) R) := by
  subst hlp
  unfold got ready
  simp only [wpT_bind]
  iintro ⟨⟨⟨Hz, Hzw⟩, ⟨Hx, Hxw⟩, Hs, Hz', Hx'⟩, ⟨Hm, Hos, Ho⟩, Ht⟩ Hk
  iapply (inner_loop d L kM muM siM tk tm ts zM xM oM ((chunk zA L t b).view.read (Elt F) z0) ((chunk xA L t b).view.read (Elt F) x0)
    (fun j => hz _) _) $$ [Hz Hx Ht Hm]
  · isplitl [Hz]; · iexact Hz
    isplitl [Hx]; · iexact Hx
    isplitl [Ht]; · iexact Ht
    iexact Hm
  iintro ⟨Hz, Hx, Ht, Hm⟩
  ihave Hz := (holds_free d L zM _) $$ Hz
  ihave Hx := (holds_free d L xM _) $$ Hx
  iapply (wp_send_chunk t eo _) $$ [Hm Hos Ho]
  · isplitl [Hm]; · iexact Hm
    isplitl [Hos]; · iexact Hos
    iexact Ho
  iintro Ho
  ihave Hza : bigSep Finset.univ (zAt d L z0 b) $$ [Hzw Hz']
  · rw [all_eq (zAt d L z0 b) t]
    isplitl [Hzw]; · iexact Hzw
    iexact Hz'
  ihave Hxa : bigSep Finset.univ (xAt d L x0 b) $$ [Hxw Hx']
  · rw [all_eq (xAt d L x0 b) t]
    isplitl [Hxw]; · iexact Hxw
    iexact Hx'
  by_cases h : c
  · simp only [dif_pos h, wpT_bind]
    iapply (wp_fetch_next (⟨t.val + 1, hc.mp h⟩ : Fin 4) (ez h _) (ex h _) _) $$ [Hza Hxa Hz Hx Hs]
    · isplitl [Hza]; · iexact Hza
      isplitl [Hxa]; · iexact Hxa
      isplitl [Hz]; · iexact Hz
      isplitl [Hx]; · iexact Hx
      iexact Hs
    iintro Hin
    iapply Hk
    isplitl [Hin]; · iexact Hin
    isplitl [Ho]; · iexact Ho
    iexact Ht
  · rw [dif_neg h]
    iapply Hk
    isplitr [Ho Ht]
    · unfold inSt
      rw [dif_neg fun h' => h (hc.mpr h')]
      isplitl [Hz]; · iexact Hz
      isplitl [Hx]; · iexact Hx
      isplitl [Hs]; · iexact Hs
      isplitl [Hza]; · iexact Hza
      iexact Hxa
    isplitl [Ho]; · iexact Ho
    iexact Ht

end Chunks

end Cert.Proof.Mix

end
-- ==== Proof.Trip.lean ====
/-
  One trip of a tile's loop: a step for each of the four buffers.
-/
module

public import proofs.«01_k».proof.Proof.Step

@[expose] public section

noncomputable section

namespace Cert.Proof.Mix

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The buffers and the semaphores -/

/-- The tables: the constants, the means, the reciprocal deviations. -/
abbrev kB : Memref sig .scVector .vmem S16 .f32 := Memref.whole cc0_scratch0
abbrev muB : Memref sig .scVector .vmem S16 .f32 := Memref.whole cc0_scratch1
abbrev siB : Memref sig .scVector .vmem S16 .f32 := Memref.whole cc0_scratch2

abbrev zB (b : Fin 4) : Memref sig .scVector .vmem S8192 .i32 :=
  match b with
  | 0 => Memref.whole cc0_scratch3
  | 1 => Memref.whole cc0_scratch4
  | 2 => Memref.whole cc0_scratch5
  | 3 => Memref.whole cc0_scratch6

abbrev xB (b : Fin 4) : Memref sig .scVector .vmem S8192 .f32 :=
  match b with
  | 0 => Memref.whole cc0_scratch7
  | 1 => Memref.whole cc0_scratch8
  | 2 => Memref.whole cc0_scratch9
  | 3 => Memref.whole cc0_scratch10

abbrev oB (b : Fin 4) : Memref sig .scVector .vmem S8192 .f32 :=
  match b with
  | 0 => Memref.whole cc0_scratch11
  | 1 => Memref.whole cc0_scratch12
  | 2 => Memref.whole cc0_scratch13
  | 3 => Memref.whole cc0_scratch14

abbrev inB (b : Fin 4) : DmaSem sig :=
  match b with
  | 0 => cc0_scratch15.sem
  | 1 => cc0_scratch16.sem
  | 2 => cc0_scratch17.sem
  | 3 => cc0_scratch18.sem

abbrev outB (b : Fin 4) : DmaSem sig :=
  match b with
  | 0 => cc0_scratch19.sem
  | 1 => cc0_scratch20.sem
  | 2 => cc0_scratch21.sem
  | 3 => cc0_scratch22.sem

variable (d : Dev nD) (L : grid0.Coords) (tk tm ts : S16.Idx → Elt F .f32)
variable (z0 : S4194304.Idx → Elt F .i32) (x0 o0 : S4194304.Idx → Elt F .f32)
variable (O : CellTallies nD τ sig (HIx 1)) (W : Waits sig (HIx 1))

/-- Buffer `b`'s share of what is owned before trip `n`. -/
def bufSt (b : Fin 4) (n : ℕ) : PP F :=
  iprop(inSt d L z0 x0 b (zB b) (xB b) (inB b) n ∗ outSt d L tk tm ts z0 x0 o0 b (oB b) (outB b) n)

/-- What is owned before trip `n`. -/
def tripSt (n : ℕ) : PP F :=
  iprop(bufSt d L tk tm ts z0 x0 o0 0 n ∗ bufSt d L tk tm ts z0 x0 o0 1 n ∗ bufSt d L tk tm ts z0 x0 o0 2 n ∗ bufSt d L tk tm ts z0 x0 o0 3 n
    ∗ tabs d L kB muB siB tk tm ts ∗ waited d L O W)

theorem trips_eq : k0_t1_loop.trips = 4 := by decide

/-- The windows of trip `k`, and of the trip after. -/
theorem off_now (k : Fin k0_t1_loop.trips) (b : Fin 4) :
    k0_off2 L k (BitVec.ofNat 32 b.val) = cOff L ⟨k.val, trips_eq ▸ k.isLt⟩ b := k0_off2_eq L k b

theorem cond_drain : ∀ k : Fin k0_t1_loop.trips, (k0_cond1 k = 1#1 ↔ 1 ≤ k.val) ∧ (k0_cond3 k = 1#1 ↔ 1 ≤ k.val)
    ∧ (k0_cond5 k = 1#1 ↔ 1 ≤ k.val) ∧ (k0_cond7 k = 1#1 ↔ 1 ≤ k.val) := by decide +kernel

theorem cond_next : ∀ k : Fin k0_t1_loop.trips, (k0_cond2 k = 1#1 ↔ k.val + 1 < 4) ∧ (k0_cond4 k = 1#1 ↔ k.val + 1 < 4)
    ∧ (k0_cond6 k = 1#1 ↔ k.val + 1 < 4) ∧ (k0_cond8 k = 1#1 ↔ k.val + 1 < 4) := by decide +kernel

theorem cOff_of (t b : Fin 4) {n : ℕ} (h : n = 262144 * (L 1).val + 131072 * (L 0).val + 32768 * t.val + 8192 * b.val) :
    (![n] : Fin 1 → ℕ) = cOff L t b := by rw [h]

theorem off_next (k : Fin k0_t1_loop.trips) (h : k.val + 1 < 4) :
    k0_off6 L k = cOff L ⟨k.val + 1, h⟩ 0 ∧ k0_off10 L k = cOff L ⟨k.val + 1, h⟩ 1
      ∧ k0_off14 L k = cOff L ⟨k.val + 1, h⟩ 2 ∧ k0_off18 L k = cOff L ⟨k.val + 1, h⟩ 3 := by
  have ht : ((⟨k.val + 1, h⟩ : Fin 4) : ℕ) = k.val + 1 := rfl
  have h0 : ((0 : Fin 4) : ℕ) = 0 := rfl
  have h1 : ((1 : Fin 4) : ℕ) = 1 := rfl
  have h2 : ((2 : Fin 4) : ℕ) = 2 := rfl
  have h3 : ((3 : Fin 4) : ℕ) = 3 := rfl
  exact ⟨(k0_off6_eq L k).trans (cOff_of L ⟨k.val + 1, h⟩ 0 (by omega)), (k0_off10_eq L k).trans (cOff_of L ⟨k.val + 1, h⟩ 1 (by omega)),
    (k0_off14_eq L k).trans (cOff_of L ⟨k.val + 1, h⟩ 2 (by omega)), (k0_off18_eq L k).trans (cOff_of L ⟨k.val + 1, h⟩ 3 (by omega))⟩

set_option maxHeartbeats 400000 in
set_option maxRecDepth 65536 in
theorem trip (hz : ∀ i, (z0 i).toNat < 16) (v2 : BitVec 32) (k : Fin k0_t1_loop.trips) (acc : Unit) :
    iprop(Transfers.MayWaits (thr d L) ι₀ O ∗ tripSt d L tk tm ts z0 x0 o0 O W k.val)
      ⊢ wpT d L (k0_t1_body L zA (Memref.isWhole_whole _) xA (Memref.isWhole_whole _) pA (Memref.isWhole_whole _) muA (Memref.isWhole_whole _)
          sdA (Memref.isWhole_whole _) oA (Memref.isWhole_whole _) kB (Memref.isWhole_whole _) muB (Memref.isWhole_whole _) siB (Memref.isWhole_whole _)
          (Memref.whole cc0_scratch3) (Memref.isWhole_whole _) (Memref.whole cc0_scratch4) (Memref.isWhole_whole _)
          (Memref.whole cc0_scratch5) (Memref.isWhole_whole _) (Memref.whole cc0_scratch6) (Memref.isWhole_whole _)
          (Memref.whole cc0_scratch7) (Memref.isWhole_whole _) (Memref.whole cc0_scratch8) (Memref.isWhole_whole _)
          (Memref.whole cc0_scratch9) (Memref.isWhole_whole _) (Memref.whole cc0_scratch10) (Memref.isWhole_whole _)
          (Memref.whole cc0_scratch11) (Memref.isWhole_whole _) (Memref.whole cc0_scratch12) (Memref.isWhole_whole _)
          (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 cc0_scratch22
          cc0_scoped0 cc0_scoped1 cc0_scoped2 v2 k acc)
        fun _ => iprop(Transfers.MayWaits (thr d L) ι₀ O ∗ tripSt d L tk tm ts z0 x0 o0 O W (k.val + 1)) := by
  unfold k0_t1_body
  simp only [k0_part1_eq_skeleton, k0_part2_eq_skeleton]
  unfold k0_part1_skel k0_part2_skel
  obtain ⟨hd1, hd3, hd5, hd7⟩ := cond_drain k
  obtain ⟨hn2, hn4, hn6, hn8⟩ := cond_next k
  have hk : k.val < 4 := trips_eq ▸ k.isLt
  unfold tripSt bufSt
  iintro ⟨#Hmw, ⟨Hi0, Ho0⟩, ⟨Hi1, Ho1⟩, ⟨Hi2, Ho2⟩, ⟨Hi3, Ho3⟩, Ht, HW⟩
  rw [wpT_bind]
  iapply (step_wait O W _ _ (⟨k.val, hk⟩ : Fin 4)) $$ [Hi0 HW]
  · isplitr; · iexact Hmw
    isplitl [Hi0]; · iexact Hi0
    iexact HW
  iintro ⟨Hg, HW⟩
  iapply (step_drain O W _ _ (⟨k.val, hk⟩ : Fin 4) hd1) $$ [Ho0 HW]
  · isplitr; · iexact Hmw
    isplitl [Ho0]; · iexact Ho0
    iexact HW
  iintro ⟨Hr, HW⟩
  iapply (step_out _ _ (⟨k.val, hk⟩ : Fin 4) hz rfl (slice_eq_chunk oA L _ _ _ (off_now L k 0)) hn2
    (fun h h' => slice_eq_chunk zA L _ _ _ (off_next L k h').1) (fun h h' => slice_eq_chunk xA L _ _ _ (off_next L k h').1)) $$ [Hg Hr Ht]
  · isplitl [Hg]; · iexact Hg
    isplitl [Hr]; · iexact Hr
    iexact Ht
  iintro ⟨Hi0, Ho0, Ht⟩
  iapply (step_wait O W _ _ (⟨k.val, hk⟩ : Fin 4)) $$ [Hi1 HW]
  · isplitr; · iexact Hmw
    isplitl [Hi1]; · iexact Hi1
    iexact HW
  iintro ⟨Hg, HW⟩
  iapply (step_drain O W _ _ (⟨k.val, hk⟩ : Fin 4) hd3) $$ [Ho1 HW]
  · isplitr; · iexact Hmw
    isplitl [Ho1]; · iexact Ho1
    iexact HW
  iintro ⟨Hr, HW⟩
  iapply (wp_value d L _ _)
  rw [wpT_bind]
  iapply (step_out _ _ (⟨k.val, hk⟩ : Fin 4) hz rfl (slice_eq_chunk oA L _ _ _ (off_now L k 1)) hn4
    (fun h h' => slice_eq_chunk zA L _ _ _ (off_next L k h').2.1) (fun h h' => slice_eq_chunk xA L _ _ _ (off_next L k h').2.1)) $$ [Hg Hr Ht]
  · isplitl [Hg]; · iexact Hg
    isplitl [Hr]; · iexact Hr
    iexact Ht
  iintro ⟨Hi1, Ho1, Ht⟩
  iapply (step_wait O W _ _ (⟨k.val, hk⟩ : Fin 4)) $$ [Hi2 HW]
  · isplitr; · iexact Hmw
    isplitl [Hi2]; · iexact Hi2
    iexact HW
  iintro ⟨Hg, HW⟩
  iapply (step_drain O W _ _ (⟨k.val, hk⟩ : Fin 4) hd5) $$ [Ho2 HW]
  · isplitr; · iexact Hmw
    isplitl [Ho2]; · iexact Ho2
    iexact HW
  iintro ⟨Hr, HW⟩
  iapply (step_out _ _ (⟨k.val, hk⟩ : Fin 4) hz rfl (slice_eq_chunk oA L _ _ _ (off_now L k 2)) hn6
    (fun h h' => slice_eq_chunk zA L _ _ _ (off_next L k h').2.2.1) (fun h h' => slice_eq_chunk xA L _ _ _ (off_next L k h').2.2.1)) $$ [Hg Hr Ht]
  · isplitl [Hg]; · iexact Hg
    isplitl [Hr]; · iexact Hr
    iexact Ht
  iintro ⟨Hi2, Ho2, Ht⟩
  iapply (step_wait O W _ _ (⟨k.val, hk⟩ : Fin 4)) $$ [Hi3 HW]
  · isplitr; · iexact Hmw
    isplitl [Hi3]; · iexact Hi3
    iexact HW
  iintro ⟨Hg, HW⟩
  iapply (wp_value d L _ _)
  iapply (step_drain O W _ _ (⟨k.val, hk⟩ : Fin 4) hd7) $$ [Ho3 HW]
  · isplitr; · iexact Hmw
    isplitl [Ho3]; · iexact Ho3
    iexact HW
  iintro ⟨Hr, HW⟩
  iapply (step_out _ _ (⟨k.val, hk⟩ : Fin 4) hz rfl (slice_eq_chunk oA L _ _ _ (off_now L k 3)) hn8
    (fun h h' => slice_eq_chunk zA L _ _ _ (off_next L k h').2.2.2) (fun h h' => slice_eq_chunk xA L _ _ _ (off_next L k h').2.2.2)) $$ [Hg Hr Ht]
  · isplitl [Hg]; · iexact Hg
    isplitl [Hr]; · iexact Hr
    iexact Ht
  iintro ⟨Hi3, Ho3, Ht⟩
  iapply (wp_value d L _ _)
  isplitr; · iexact Hmw
  isplitl [Hi0 Ho0]
  · isplitl [Hi0]; · iexact Hi0
    iexact Ho0
  isplitl [Hi1 Ho1]
  · isplitl [Hi1]; · iexact Hi1
    iexact Ho1
  isplitl [Hi2 Ho2]
  · isplitl [Hi2]; · iexact Hi2
    iexact Ho2
  isplitl [Hi3 Ho3]
  · isplitl [Hi3]; · iexact Hi3
    iexact Ho3
  isplitl [Ht]; · iexact Ht
  iexact HW

end Cert.Proof.Mix

end
-- ==== Proof.Prologue.lean ====
/-
  What a tile does before its loop: it starts the fetches of its first chunks, copies the parameters into buffers of its
  own, and makes the two tables the loop reads from them, the constants and the reciprocal deviations.
-/
module

public import proofs.«01_k».proof.Proof.Trip

@[expose] public section

noncomputable section

namespace Cert.Proof.Mix

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

variable (d : Dev nD) (L : grid0.Coords) {O : CellTallies nD τ sig (HIx 1)} {W : Waits sig (HIx 1)}

/-! ## The parameters' copies -/

/-- A table of parameters in its array, at a share. -/
abbrev ptsAt (q : PosShare TreeShare) (A : Memref sig .scVector .hbm S16 .f32) (f : Buf (Elt F) (A.view.loc (thr d L))) : PP F :=
  iprop(A.view.loc (thr d L) ↦[A.view.set]{q} f)

/-- A table copied into a tile's buffer, and the wait for it. -/
theorem wp_copy {q : PosShare TreeShare} {A : Memref sig .scVector .hbm S16 .f32} {M : Memref sig .scVector .vmem S16 .f32}
    {f : Buf (Elt F) (A.view.loc (thr d L))} {sem : DmaSem sig} (hN : M.view.amount (.dma sem) = M.view.dmaCredit)
    {h1 h1' : A.view.WordExact} {h2 h2' : M.view.WordExact} {h3 : DmaTarget.Typed (nD := nD) (τ := τ) (p := .scVector (cV L) (jV L)) .hbm (.dma sem) (.here M)}
    (Q : PP F) :
    iprop(Transfers.MayWaits (thr d L) ι₀ O ∗ ptsAt d L q A f ∗ free d L M ∗ semVal (thr d L, SemLoc.dma sem) 0 ∗ waited d L O W)
      ⊢ iprop(((ptsAt d L q A f ∗ holds d L M (A.view.read (Elt F) f) ∗ semVal (thr d L, SemLoc.dma sem) 0 ∗ waited d L O W) -∗ Q)
        -∗ wpT d L (Prog.lift (.enqueueDma A (.here M) (.dma sem) h1 h2 h3)) fun _ =>
            wpT d L (Prog.lift (.waitDma2 sem A M h1' h2')) fun _ => Q) := by
  unfold free
  iintro ⟨#Hmw, Ha, ⟨%g, Hm⟩, Hs, HW⟩ Hk
  ihave HW := (waited_owes d L O W) $$ HW
  icases HW with ⟨%W', %hW', HO⟩
  iapply (Transfers.wp_dmaLocal countersEmb 𝒱₀ (thr d L) none ι₀ M.view.dmaCredit hN (View.dmaCredit_pos _ (by decide)) (Finset.Subset.refl _)) $$ [Ha Hm Hs]
  · isplitl [Ha]; · iexact Ha
    isplitl [Hm]; · iexact Hm
    iexact Hs
  iintro HF
  iapply (wp_done d L _)
  iapply (Transfers.wp_waitLocalO countersEmb 𝒱₀ (thr d L) none ι₀ rfl) $$ [HF HO]
  · isplitl [HF]; · iexact HF
    isplitl [HO]; · iexact HO
    iapply (Transfers.MayWaits.elim (SemLoc.dma sem)) $$ Hmw
  iintro ⟨⟨Hm, Ha⟩, Hs, HO⟩
  iapply (wp_done d L _)
  iapply Hk
  isplitl [Ha]; · iexact Ha
  isplitl [Hm]
  · iapply (holds_of_pts d L M (View.read_write_univ _ _)) $$ Hm
  isplitl [Hs]; · iexact Hs
  iapply (owes_waited d L O W hW' _) $$ HO

/-! ## The tables' loads and stores, each of all sixteen lanes -/

/-- The rectangle of a whole table. -/
abbrev row : Rect S16 := Rect.unit (s := S16) ![0] S16.size inb_S16_S16_0

theorem row_emb (i : S16.Idx) : row.emb i = i := by
  funext a
  match a with
  | 0 => exact Fin.ext (by rw [Rect.emb_apply]; show 0 + 1 * (i 0 : ℕ) = _; omega)

theorem wp_get_row {M : Memref sig .scVector .vmem S16 .f32} {x : S16.Idx → Elt F .f32} {hl : M.view.LoadsAt row.toLoadRect}
    (Q : Vec F S16 .f32 → PP F) :
    holds d L M x ⊢ iprop((holds d L M x -∗ Q x) -∗ wpT d L (Prog.lift (.load M row.toLoadRect hl)) Q) := by
  have h := wp_get d L (M := M) (x := x) (r := row) (hl := hl) Q
  rw [show (fun i => x (row.emb i)) = x from funext fun i => congrArg x (row_emb i)] at h
  exact h

theorem wp_put_row {M : Memref sig .scVector .vmem S16 .f32} {x y : S16.Idx → Elt F .f32} {hx : (M.access row).Stores Finset.univ}
    {hm : Finset.univ = (Finset.univ : Finset row.shape.Idx) ∨ ∀ a, row.stride a = 1} (Q : PP F) :
    holds d L M x ⊢ iprop((holds d L M y -∗ Q) -∗ wpT d L (Prog.lift (.store M row y Finset.univ hx hm)) fun _ => Q) := by
  iintro H Hk
  ihave H := (holds_pts d L M x) $$ H
  icases H with ⟨%f, -, H⟩
  iapply (wp_put d L _) $$ H
  iintro H
  iapply Hk
  iapply (holds_of_pts d L M ?_) $$ H
  funext i
  have h := View.read_slice_write_emb (v := M.view) row f y (Finset.mem_univ i)
  rwa [row_emb] at h

/-! ## The prologue -/

variable (p mu sd : S16.Idx → Elt F .f32) (q : PosShare TreeShare)

/-- The parameters, at a tile's share. -/
def params : PP F := iprop(ptsAt d L q pA p ∗ ptsAt d L q muA mu ∗ ptsAt d L q sdA sd)

/-- The constants: `log (p / sd)` less half the logarithm of a turn. -/
abbrev tabK : S16.Idx → Elt F .f32 := k0_pay5 sd p

/-- The reciprocal deviations. -/
abbrev tabS : S16.Idx → Elt F .f32 := k0_pay6 sd

variable (z0 : S4194304.Idx → Elt F .i32) (x0 o0 : S4194304.Idx → Elt F .f32)

/-- What buffer `b` fetches from. -/
def inInit (b : Fin 4) : PP F :=
  iprop(bigSep Finset.univ (zAt d L z0 b) ∗ bigSep Finset.univ (xAt d L x0 b) ∗ free d L (zB b) ∗ free d L (xB b) ∗ semVal (thr d L, SemLoc.dma (inB b)) 0)

/-- The semaphores of the tables' copies, at rest. -/
def tabSems : PP F :=
  iprop(semVal (thr d L, SemLoc.dma cc0_scoped0.sem) 0
    ∗ semVal (thr d L, SemLoc.dma cc0_scoped1.sem) 0 ∗ semVal (thr d L, SemLoc.dma cc0_scoped2.sem) 0)

theorem off_first (b : Fin 4) : k0_off1 L (BitVec.ofNat 32 (8192 * b.val)) = cOff L 0 b :=
  (k0_off1_eq L b).trans (cOff_of L 0 b (by have : ((0 : Fin 4) : ℕ) = 0 := rfl; omega))

set_option maxHeartbeats 400000 in
set_option maxRecDepth 65536 in
theorem prologue (R : BitVec 32 → PP F) :
    iprop(Transfers.MayWaits (thr d L) ι₀ O ∗ inInit d L z0 x0 0 ∗ inInit d L z0 x0 1 ∗ inInit d L z0 x0 2 ∗ params d L p mu sd q
        ∗ (free d L kB ∗ free d L muB ∗ free d L siB) ∗ tabSems d L ∗ waited d L O W)
      ⊢ iprop((∀ w, (inSt d L z0 x0 0 (zB 0) (xB 0) (inB 0) 0 ∗ inSt d L z0 x0 1 (zB 1) (xB 1) (inB 1) 0
            ∗ inSt d L z0 x0 2 (zB 2) (xB 2) (inB 2) 0 ∗ params d L p mu sd q ∗ tabs d L kB muB siB (tabK p sd) mu (tabS sd) ∗ tabSems d L
            ∗ waited d L O W) -∗ R w)
        -∗ wpT d L (k0_part3 L zA (Memref.isWhole_whole _) xA (Memref.isWhole_whole _) pA (Memref.isWhole_whole _) muA (Memref.isWhole_whole _)
          sdA (Memref.isWhole_whole _) oA (Memref.isWhole_whole _) kB (Memref.isWhole_whole _) muB (Memref.isWhole_whole _) siB (Memref.isWhole_whole _)
          (Memref.whole cc0_scratch3) (Memref.isWhole_whole _) (Memref.whole cc0_scratch4) (Memref.isWhole_whole _)
          (Memref.whole cc0_scratch5) (Memref.isWhole_whole _) (Memref.whole cc0_scratch6) (Memref.isWhole_whole _)
          (Memref.whole cc0_scratch7) (Memref.isWhole_whole _) (Memref.whole cc0_scratch8) (Memref.isWhole_whole _)
          (Memref.whole cc0_scratch9) (Memref.isWhole_whole _) (Memref.whole cc0_scratch10) (Memref.isWhole_whole _)
          (Memref.whole cc0_scratch11) (Memref.isWhole_whole _) (Memref.whole cc0_scratch12) (Memref.isWhole_whole _)
          (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 cc0_scratch22
          cc0_scoped0 cc0_scoped1 cc0_scoped2) R) := by
  rw [k0_part3_eq_skeleton]
  unfold k0_part3_skel inInit params tabSems
  simp only [wpT_bind]
  iintro ⟨#Hmw, H0, H1, H2, ⟨Hp, Hmu, Hsd⟩, ⟨Hkb, Hmb, Hsb⟩, ⟨Hs0, Hs1, Hs2⟩, HW⟩ Hk
  iapply (wp_fetch_next (b := 0) (zM := zB 0) (xM := xB 0) (inS := inB 0) 0 (slice_eq_chunk zA L _ _ _ (off_first L 0)) (slice_eq_chunk xA L _ _ _ (off_first L 0)) _) $$ H0
  iintro H0
  iapply (wp_fetch_next (b := 1) (zM := zB 1) (xM := xB 1) (inS := inB 1) 0 (slice_eq_chunk zA L _ _ _ (off_first L 1)) (slice_eq_chunk xA L _ _ _ (off_first L 1)) _) $$ H1
  iintro H1
  iapply (wp_fetch_next (b := 2) (zM := zB 2) (xM := xB 2) (inS := inB 2) 0 (slice_eq_chunk zA L _ _ _ (off_first L 2)) (slice_eq_chunk xA L _ _ _ (off_first L 2)) _) $$ H2
  iintro H2
  iapply (wp_copy d L rfl _) $$ [Hmu Hmb Hs0 HW]
  · isplitr; · iexact Hmw
    isplitl [Hmu]; · iexact Hmu
    isplitl [Hmb]; · iexact Hmb
    isplitl [Hs0]; · iexact Hs0
    iexact HW
  iintro ⟨Hmu, Hmb, Hs0, HW⟩
  iapply (wp_copy d L rfl _) $$ [Hsd Hsb Hs1 HW]
  · isplitr; · iexact Hmw
    isplitl [Hsd]; · iexact Hsd
    isplitl [Hsb]; · iexact Hsb
    isplitl [Hs1]; · iexact Hs1
    iexact HW
  iintro ⟨Hsd, Hsb, Hs1, HW⟩
  iapply (wp_copy d L rfl _) $$ [Hp Hkb Hs2 HW]
  · isplitr; · iexact Hmw
    isplitl [Hp]; · iexact Hp
    isplitl [Hkb]; · iexact Hkb
    isplitl [Hs2]; · iexact Hs2
    iexact HW
  iintro ⟨Hp, Hkb, Hs2, HW⟩
  iapply (wp_get_row d L _) $$ Hsb
  iintro Hsb
  iapply (wp_get_row d L _) $$ Hkb
  iintro Hkb
  iapply (wp_get_row d L _) $$ Hkb
  iintro Hkb
  iapply (wp_put_row d L _) $$ Hkb
  iintro Hkb
  iapply (wp_get_row d L _) $$ Hsb
  iintro Hsb
  iapply (wp_put_row d L _) $$ Hsb
  iintro Hsb
  iapply (wp_value d L _ _)
  iapply Hk
  isplitl [H0]; · iexact H0
  isplitl [H1]; · iexact H1
  isplitl [H2]; · iexact H2
  isplitl [Hp Hmu Hsd]
  · isplitl [Hp]; · iexact Hp
    isplitl [Hmu]; · iexact Hmu
    iexact Hsd
  isplitl [Hkb Hmb Hsb]
  · unfold tabs
    isplitl [Hkb]; · iexact Hkb
    isplitl [Hmb]; · iexact Hmb
    iexact Hsb
  isplitl [Hs0 Hs1 Hs2]
  · isplitl [Hs0]; · iexact Hs0
    isplitl [Hs1]; · iexact Hs1
    iexact Hs2
  iexact HW

end Cert.Proof.Mix

end
-- ==== Proof.Tile.lean ====
/-
  The task of one tile, from start to end.
-/
module

public import proofs.«01_k».proof.Proof.Prologue

@[expose] public section

noncomputable section

namespace Cert.Proof.Mix

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

variable (d : Dev nD) (L : grid0.Coords)
variable (p mu sd : S16.Idx → Elt F .f32) (q : PosShare TreeShare)
variable (z0 : S4194304.Idx → Elt F .i32) (x0 o0 : S4194304.Idx → Elt F .f32)

/-! ## What a task owns -/

/-- The result, from the arguments. -/
abbrev ans : S4194304.Idx → Elt F .f32 := resVal (tabK p sd) mu (tabS sd) z0 x0

/-- The chunks that pass through buffer `b`, the result's at contents `f`. -/
def pieces (f : S4194304.Idx → Elt F .f32) (b : Fin 4) : PP F :=
  iprop(bigSep Finset.univ (zAt d L z0 b) ∗ bigSep Finset.univ (xAt d L x0 b) ∗ bigSep Finset.univ fun t => pts d L (chunk oA L t b) f)

/-- A task's share of the arrays, the result's at contents `f`. -/
def share (f : S4194304.Idx → Elt F .f32) : PP F :=
  iprop(params d L p mu sd q ∗ pieces d L z0 x0 f 0 ∗ pieces d L z0 x0 f 1 ∗ pieces d L z0 x0 f 2 ∗ pieces d L z0 x0 f 3)

/-- Buffer `b` and its semaphores, at rest. -/
def bufRest (b : Fin 4) : PP F :=
  iprop((free d L (zB b) ∗ free d L (xB b) ∗ free d L (oB b)) ∗ semVal (thr d L, SemLoc.dma (inB b)) 0 ∗ semVal (thr d L, SemLoc.dma (outB b)) 0)

/-- All of a tile's buffers and semaphores, at rest. -/
def rest : PP F :=
  iprop((free d L kB ∗ free d L muB ∗ free d L siB) ∗ tabSems d L ∗ bufRest d L 0 ∗ bufRest d L 1 ∗ bufRest d L 2 ∗ bufRest d L 3)

/-- A buffer before the first trip but for its fetch: what it fetches from, and what it sends. -/
theorem buf_start (tk tm ts : S16.Idx → Elt F .f32) (b : Fin 4) :
    iprop(pieces d L z0 x0 o0 b ∗ bufRest d L b) ⊢ iprop(inInit d L z0 x0 b ∗ outSt d L tk tm ts z0 x0 o0 b (oB b) (outB b) 0) := by
  rw [outSt_zero]
  unfold pieces bufRest inInit ready
  rw [show oAt d L tk tm ts z0 x0 o0 b 0 = fun t => pts d L (chunk oA L t b) o0 from funext fun t => oAt_ge (Nat.zero_le _)]
  iintro ⟨⟨Hz, Hx, Ho⟩, ⟨Hzm, Hxm, Hom⟩, Hi, Hs⟩
  isplitr [Hom Hs Ho]
  · isplitl [Hz]; · iexact Hz
    isplitl [Hx]; · iexact Hx
    isplitl [Hzm]; · iexact Hzm
    isplitl [Hxm]; · iexact Hxm
    iexact Hi
  isplitl [Hom]; · iexact Hom
  isplitl [Hs]; · iexact Hs
  iexact Ho

/-- A buffer after the last trip, its last transfer out over. -/
theorem buf_end (b : Fin 4) :
    iprop(inSt d L z0 x0 b (zB b) (xB b) (inB b) 4 ∗ ready d L (tabK p sd) mu (tabS sd) z0 x0 o0 b (oB b) (outB b) 4)
      ⊢ iprop(pieces d L z0 x0 (ans p mu sd z0 x0) b ∗ bufRest d L b) := by
  unfold pieces bufRest inSt ready
  rw [dif_neg (by decide), show oAt d L (tabK p sd) mu (tabS sd) z0 x0 o0 b 4 = fun t => pts d L (chunk oA L t b) (ans p mu sd z0 x0) from
    funext fun t => oAt_lt t.isLt]
  iintro ⟨⟨Hzm, Hxm, Hi, Hz, Hx⟩, Hom, Hs, Ho⟩
  isplitl [Hz Hx Ho]
  · isplitl [Hz]; · iexact Hz
    isplitl [Hx]; · iexact Hx
    iexact Ho
  isplitl [Hzm Hxm Hom]
  · isplitl [Hzm]; · iexact Hzm
    isplitl [Hxm]; · iexact Hxm
    iexact Hom
  isplitl [Hi]; · iexact Hi
  iexact Hs

variable (O : CellTallies nD τ sig (HIx 1)) (W : Waits sig (HIx 1))

set_option maxHeartbeats 400000 in
set_option maxRecDepth 65536 in
/-- The task: from the arrays' share and the tile's own buffers and semaphores to the same, the result computed. -/
theorem task (hz : ∀ i, (z0 i).toNat < 16) :
    iprop(Transfers.MayWaits (thr d L) ι₀ O ∗ share d L p mu sd q z0 x0 o0 ∗ rest d L ∗ waited d L O W)
      ⊢ wpT d L (cc0_sc_kernel L zA (Memref.isWhole_whole _) xA (Memref.isWhole_whole _) pA (Memref.isWhole_whole _) muA (Memref.isWhole_whole _)
          sdA (Memref.isWhole_whole _) oA (Memref.isWhole_whole _) kB (Memref.isWhole_whole _) muB (Memref.isWhole_whole _) siB (Memref.isWhole_whole _)
          (Memref.whole cc0_scratch3) (Memref.isWhole_whole _) (Memref.whole cc0_scratch4) (Memref.isWhole_whole _)
          (Memref.whole cc0_scratch5) (Memref.isWhole_whole _) (Memref.whole cc0_scratch6) (Memref.isWhole_whole _)
          (Memref.whole cc0_scratch7) (Memref.isWhole_whole _) (Memref.whole cc0_scratch8) (Memref.isWhole_whole _)
          (Memref.whole cc0_scratch9) (Memref.isWhole_whole _) (Memref.whole cc0_scratch10) (Memref.isWhole_whole _)
          (Memref.whole cc0_scratch11) (Memref.isWhole_whole _) (Memref.whole cc0_scratch12) (Memref.isWhole_whole _)
          (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 cc0_scratch22
          cc0_scoped0 cc0_scoped1 cc0_scoped2)
        fun _ => iprop(share d L p mu sd q z0 x0 (ans p mu sd z0 x0) ∗ rest d L ∗ waited d L O W) := by
  rw [cc0_sc_kernel_eq_skeleton]
  unfold cc0_sc_kernel_skel share rest
  simp only [wpT_bind]
  iintro ⟨#Hmw, ⟨Hpar, Hp0, Hp1, Hp2, Hp3⟩, ⟨Htb, Hts, Hb0, Hb1, Hb2, Hb3⟩, HW⟩
  ihave H := (buf_start d L z0 x0 o0 (tabK p sd) mu (tabS sd) 0) $$ [Hp0 Hb0]
  · isplitl [Hp0] <;> iassumption
  icases H with ⟨Hi0, Ho0⟩
  ihave H := (buf_start d L z0 x0 o0 (tabK p sd) mu (tabS sd) 1) $$ [Hp1 Hb1]
  · isplitl [Hp1] <;> iassumption
  icases H with ⟨Hi1, Ho1⟩
  ihave H := (buf_start d L z0 x0 o0 (tabK p sd) mu (tabS sd) 2) $$ [Hp2 Hb2]
  · isplitl [Hp2] <;> iassumption
  icases H with ⟨Hi2, Ho2⟩
  ihave H := (buf_start d L z0 x0 o0 (tabK p sd) mu (tabS sd) 3) $$ [Hp3 Hb3]
  · isplitl [Hp3] <;> iassumption
  icases H with ⟨Hi3, Ho3⟩
  iapply (prologue d L p mu sd q z0 x0 _) $$ [Hi0 Hi1 Hi2 Hpar Htb Hts HW]
  · isplitr; · iexact Hmw
    isplitl [Hi0]; · iexact Hi0
    isplitl [Hi1]; · iexact Hi1
    isplitl [Hi2]; · iexact Hi2
    isplitl [Hpar]; · iexact Hpar
    isplitl [Htb]; · iexact Htb
    isplitl [Hts]; · iexact Hts
    iexact HW
  iintro %w ⟨Hi0, Hi1, Hi2, Hpar, Ht, Hts, HW⟩
  ihave Hi3 := (show inInit d L z0 x0 3 ⊢ iprop(bigSep Finset.univ (zAt d L z0 3) ∗ bigSep Finset.univ (xAt d L x0 3) ∗ free d L (zB 3) ∗ free d L (xB 3)
    ∗ semVal (thr d L, SemLoc.dma (inB 3)) 0) from .rfl) $$ Hi3
  iapply (wp_fetch_next (b := 3) (zM := zB 3) (xM := xB 3) (inS := inB 3) 0 (slice_eq_chunk zA L _ _ _ (off_first L 3)) (slice_eq_chunk xA L _ _ _ (off_first L 3)) _) $$ Hi3
  iintro Hi3
  iapply (Scf.wp_for frame (wpE (defs₀ (F := F)) 𝒱₀ (thr d L) none) Set.univ k0_t1_loop.lb k0_t1_loop.ub k0_t1_loop.st k0_t1_ok ⟨⟩ _
    (fun k _ => iprop(Transfers.MayWaits (thr d L) ι₀ O ∗ tripSt d L (tabK p sd) mu (tabS sd) z0 x0 o0 O W k))
    (fun k acc => trip d L (tabK p sd) mu (tabS sd) z0 x0 o0 O W hz w k acc))
  isplitl [Hi0 Hi1 Hi2 Hi3 Ho0 Ho1 Ho2 Ho3 Ht HW]
  · isplitr; · iexact Hmw
    unfold tripSt bufSt
    isplitl [Hi0 Ho0]; · isplitl [Hi0] <;> iassumption
    isplitl [Hi1 Ho1]; · isplitl [Hi1] <;> iassumption
    isplitl [Hi2 Ho2]; · isplitl [Hi2] <;> iassumption
    isplitl [Hi3 Ho3]
    · isplitl [Hi3]; · iexact Hi3
      iexact Ho3
    isplitl [Ht]; · iexact Ht
    iexact HW
  iintro %acc H
  ihave H := (show iprop(Transfers.MayWaits (thr d L) ι₀ O ∗ tripSt d L (tabK p sd) mu (tabS sd) z0 x0 o0 O W k0_t1_loop.trips)
      ⊢ tripSt d L (tabK p sd) mu (tabS sd) z0 x0 o0 O W 4 from by rw [trips_eq]; exact sep_elim_right) $$ H
  ihave H := (show tripSt d L (tabK p sd) mu (tabS sd) z0 x0 o0 O W 4 ⊢ iprop(
    (inSt d L z0 x0 0 (zB 0) (xB 0) (inB 0) 4 ∗ outSt d L (tabK p sd) mu (tabS sd) z0 x0 o0 0 (oB 0) (outB 0) 4)
    ∗ (inSt d L z0 x0 1 (zB 1) (xB 1) (inB 1) 4 ∗ outSt d L (tabK p sd) mu (tabS sd) z0 x0 o0 1 (oB 1) (outB 1) 4)
    ∗ (inSt d L z0 x0 2 (zB 2) (xB 2) (inB 2) 4 ∗ outSt d L (tabK p sd) mu (tabS sd) z0 x0 o0 2 (oB 2) (outB 2) 4)
    ∗ (inSt d L z0 x0 3 (zB 3) (xB 3) (inB 3) 4 ∗ outSt d L (tabK p sd) mu (tabS sd) z0 x0 o0 3 (oB 3) (outB 3) 4)
    ∗ (holds d L kB (tabK p sd) ∗ holds d L muB mu ∗ holds d L siB (tabS sd)) ∗ waited d L O W) from .rfl) $$ H
  icases H with ⟨⟨Hi0, Ho0⟩, ⟨Hi1, Ho1⟩, ⟨Hi2, Ho2⟩, ⟨Hi3, Ho3⟩, ⟨Hkb, Hmb, Hsb⟩, HW⟩
  iapply (wp_sent_chunk (b := 0) (oM := oB 0) (outS := outB 0) O W 3 (by decide) _) $$ [Ho0 HW]
  · isplitr; · iexact Hmw
    isplitl [Ho0]; · iexact Ho0
    iexact HW
  iintro ⟨Ho0, HW⟩
  ihave H := (buf_end d L p mu sd z0 x0 o0 0) $$ [Hi0 Ho0]
  · isplitl [Hi0] <;> iassumption
  icases H with ⟨Hp0, Hb0⟩
  iapply (wp_sent_chunk (b := 1) (oM := oB 1) (outS := outB 1) O W 3 (by decide) _) $$ [Ho1 HW]
  · isplitr; · iexact Hmw
    isplitl [Ho1]; · iexact Ho1
    iexact HW
  iintro ⟨Ho1, HW⟩
  ihave H := (buf_end d L p mu sd z0 x0 o0 1) $$ [Hi1 Ho1]
  · isplitl [Hi1] <;> iassumption
  icases H with ⟨Hp1, Hb1⟩
  iapply (wp_sent_chunk (b := 2) (oM := oB 2) (outS := outB 2) O W 3 (by decide) _) $$ [Ho2 HW]
  · isplitr; · iexact Hmw
    isplitl [Ho2]; · iexact Ho2
    iexact HW
  iintro ⟨Ho2, HW⟩
  ihave H := (buf_end d L p mu sd z0 x0 o0 2) $$ [Hi2 Ho2]
  · isplitl [Hi2] <;> iassumption
  icases H with ⟨Hp2, Hb2⟩
  iapply (wp_sent_chunk (b := 3) (oM := oB 3) (outS := outB 3) O W 3 (by decide) _) $$ [Ho3 HW]
  · isplitr; · iexact Hmw
    isplitl [Ho3]; · iexact Ho3
    iexact HW
  iintro ⟨Ho3, HW⟩
  ihave H := (buf_end d L p mu sd z0 x0 o0 3) $$ [Hi3 Ho3]
  · isplitl [Hi3] <;> iassumption
  icases H with ⟨Hp3, Hb3⟩
  iapply (wp_value d L _ _)
  isplitl [Hpar Hp0 Hp1 Hp2 Hp3]
  · isplitl [Hpar]; · iexact Hpar
    isplitl [Hp0]; · iexact Hp0
    isplitl [Hp1]; · iexact Hp1
    isplitl [Hp2]; · iexact Hp2
    iexact Hp3
  isplitr [HW]
  · isplitl [Hkb Hmb Hsb]
    · isplitl [Hkb]; · iapply (holds_free d L kB _) $$ Hkb
      isplitl [Hmb]; · iapply (holds_free d L muB _) $$ Hmb
      iapply (holds_free d L siB _) $$ Hsb
    isplitl [Hts]; · iexact Hts
    isplitl [Hb0]; · iexact Hb0
    isplitl [Hb1]; · iexact Hb1
    isplitl [Hb2]; · iexact Hb2
    iexact Hb3
  iexact HW

end Cert.Proof.Mix

end
-- ==== Proof.Own.lean ====
/-
  A tile's own buffers and semaphores: those the launch deals it are the ones its task names, and others.
-/
module

public import proofs.«01_k».proof.Proof.Tile

@[expose] public section

noncomputable section

namespace Cert.Proof.Mix

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

variable (d : Dev nD) (L : grid0.Coords)

/-- The buffers a task names. -/
def taskBufs : Finset (Ref sig .scVector) :=
  {cc0_scratch0, cc0_scratch1, cc0_scratch2, cc0_scratch3, cc0_scratch4, cc0_scratch5, cc0_scratch6, cc0_scratch7, cc0_scratch8, cc0_scratch9, cc0_scratch10, cc0_scratch11, cc0_scratch12, cc0_scratch13, cc0_scratch14}

/-- The semaphores a task names. -/
def taskSems : Finset (SemLoc sig) :=
  {.dma cc0_scratch15.sem, .dma cc0_scratch16.sem, .dma cc0_scratch17.sem, .dma cc0_scratch18.sem, .dma cc0_scratch19.sem, .dma cc0_scratch20.sem, .dma cc0_scratch21.sem, .dma cc0_scratch22.sem, .dma cc0_scoped0.sem, .dma cc0_scoped1.sem, .dma cc0_scoped2.sem}

/-- The buffers of a tile as the launch names them, those of its task. -/
def taskRefs (L : grid0.Coords) : Finset (DevRef τ sig) := taskBufs.image (Proc.scVector (cV L) (jV L)).devRef

/-- The semaphores of a tile as the launch names them, those of its task. -/
def taskCells (d : Dev nD) (L : grid0.Coords) : Finset (GSem nD τ sig) := taskSems.image fun s => (thr d L, s)

theorem taskRefs_subset : taskRefs L ⊆ SparseCore.Cfg.ownRefs (τ := τ) (sig := sig) (.scVector (cV L) (jV L)) := by
  intro b hb
  obtain ⟨r, hr, rfl⟩ := Finset.mem_image.mp hb
  have h : ∀ r ∈ taskBufs, ((Proc.scVector (cV L) (jV L)).devRef r).owner = .proc (.scVector (cV L) (jV L)) := by
    unfold taskBufs
    simp only [Finset.forall_mem_insert, Finset.mem_singleton, forall_eq]
    exact ⟨rfl, rfl, rfl, rfl, rfl, rfl, rfl, rfl, rfl, rfl, rfl, rfl, rfl, rfl, rfl⟩
  exact SparseCore.Cfg.mem_ownRefs_of_owner (h r hr)

theorem taskCells_subset : taskCells d L ⊆ SparseCore.Cfg.ownCells (thr d L) := by
  intro g hg
  obtain ⟨s, hs, rfl⟩ := Finset.mem_image.mp hg
  have h : ∀ s ∈ taskSems, s.isScoped Kind.scVector = true := by decide
  exact SparseCore.Cfg.mem_ownCells.mpr ⟨rfl, h s hs⟩

/-- A whole buffer at some contents. -/
theorem free_whole (b : Ref sig .scVector) : free (F := F) d L (Memref.whole b) = iprop(∃ f, (thr d L).loc b ↦{fullShare} f) := by
  unfold free pts
  rw [show (Memref.whole b).view.set = Finset.univ from View.set_whole b]

theorem taskBufs_eq (Φ : Ref sig .scVector → PP F) :
    bigSep taskBufs Φ = iprop(Φ cc0_scratch0 ∗ Φ cc0_scratch1 ∗ Φ cc0_scratch2 ∗ Φ cc0_scratch3 ∗ Φ cc0_scratch4 ∗ Φ cc0_scratch5 ∗ Φ cc0_scratch6 ∗ Φ cc0_scratch7 ∗ Φ cc0_scratch8 ∗ Φ cc0_scratch9 ∗ Φ cc0_scratch10 ∗ Φ cc0_scratch11 ∗ Φ cc0_scratch12 ∗ Φ cc0_scratch13 ∗ Φ cc0_scratch14) := by
  unfold taskBufs
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem taskSems_eq (Φ : SemLoc sig → PP F) :
    bigSep taskSems Φ = iprop(Φ (.dma cc0_scratch15.sem) ∗ Φ (.dma cc0_scratch16.sem) ∗ Φ (.dma cc0_scratch17.sem) ∗ Φ (.dma cc0_scratch18.sem) ∗ Φ (.dma cc0_scratch19.sem) ∗ Φ (.dma cc0_scratch20.sem) ∗ Φ (.dma cc0_scratch21.sem) ∗ Φ (.dma cc0_scratch22.sem) ∗ Φ (.dma cc0_scoped0.sem) ∗ Φ (.dma cc0_scoped1.sem) ∗ Φ (.dma cc0_scoped2.sem)) := by
  unfold taskSems
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The buffers of a tile its task does not name. -/
def otherBufs : PP F :=
  bigSep (SparseCore.Cfg.ownRefs (τ := τ) (sig := sig) (.scVector (cV L) (jV L)) \ taskRefs L) fun b => iprop(∃ f, ((d, b) : Loc nD τ sig) ↦{fullShare} f)

/-- The semaphores of a tile its task does not name. -/
def otherSems : PP F := bigSep (SparseCore.Cfg.ownCells (thr d L) \ taskCells d L) fun g => semVal g 0

theorem refs_eq : (bigSep (taskRefs L) fun b => iprop(∃ f, ((d, b) : Loc nD τ sig) ↦{fullShare} f) : PP F)
    = bigSep taskBufs fun b => free d L (Memref.whole b) := by
  unfold taskRefs
  rw [SparseCore.bigSep_image_of_injOn (Proc.devRef_injective _).injOn]
  exact bigSep_congr fun b _ => (free_whole d L b).symm

theorem cells_eq : (bigSep (taskCells d L) fun g => semVal g 0 : PP F) = bigSep taskSems fun s => semVal (thr d L, s) 0 := by
  unfold taskCells
  rw [SparseCore.bigSep_image_of_injOn fun a _ b _ h => (Prod.mk.inj h).2]

theorem ownBufs_eq : (SparseCore.Cfg.ownBufs (thr d L) : PP F) = iprop(bigSep taskBufs (fun b => free d L (Memref.whole b)) ∗ otherBufs d L) := by
  rw [← refs_eq]
  exact SparseCore.bigSep_sdiff_split' (taskRefs_subset L)

theorem ownSems_eq : (SparseCore.Cfg.ownSems0 (thr d L) : PP F) = iprop(bigSep taskSems (fun s => semVal (thr d L, s) 0) ∗ otherSems d L) := by
  rw [← cells_eq]
  exact SparseCore.bigSep_sdiff_split' (taskCells_subset d L)

set_option maxRecDepth 4096 in
/-- The task's buffers and semaphores are those at rest. -/
theorem rest_eq : iprop(bigSep taskBufs (fun b => free (F := F) d L (Memref.whole b)) ∗ bigSep taskSems (fun s => semVal (thr d L, s) 0)) = rest d L := by
  rw [taskBufs_eq, taskSems_eq]
  unfold rest tabSems bufRest
  refine Entails.antisymm (show (_ : PP F) ⊢ _ from ?_) (show (_ : PP F) ⊢ _ from ?_)
  · iintro ⟨⟨B0, B1, B2, B3, B4, B5, B6, B7, B8, B9, B10, B11, B12, B13, B14⟩, S0, S1, S2, S3, S4, S5, S6, S7, S8, S9, S10⟩
    isplitl [B0 B1 B2]
    · isplitl [B0]; · iexact B0
      isplitl [B1]; · iexact B1
      iexact B2
    isplitl [S8 S9 S10]
    · isplitl [S8]; · iexact S8
      isplitl [S9]; · iexact S9
      iexact S10
    isplitl [B3 B7 B11 S0 S4]
    · isplitl [B3 B7 B11]
      · isplitl [B3]; · iexact B3
        isplitl [B7]; · iexact B7
        iexact B11
      isplitl [S0]; · iexact S0
      iexact S4
    isplitl [B4 B8 B12 S1 S5]
    · isplitl [B4 B8 B12]
      · isplitl [B4]; · iexact B4
        isplitl [B8]; · iexact B8
        iexact B12
      isplitl [S1]; · iexact S1
      iexact S5
    isplitl [B5 B9 B13 S2 S6]
    · isplitl [B5 B9 B13]
      · isplitl [B5]; · iexact B5
        isplitl [B9]; · iexact B9
        iexact B13
      isplitl [S2]; · iexact S2
      iexact S6
    isplitl [B6 B10 B14]
    · isplitl [B6]; · iexact B6
      isplitl [B10]; · iexact B10
      iexact B14
    isplitl [S3]; · iexact S3
    iexact S7
  · iintro ⟨⟨B0, B1, B2⟩, ⟨S8, S9, S10⟩, ⟨⟨B3, B7, B11⟩, S0, S4⟩, ⟨⟨B4, B8, B12⟩, S1, S5⟩, ⟨⟨B5, B9, B13⟩, S2, S6⟩, ⟨⟨B6, B10, B14⟩, S3, S7⟩⟩
    isplitl [B0 B1 B2 B3 B4 B5 B6 B7 B8 B9 B10 B11 B12 B13 B14]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      isplitl [B10]; · iexact B10
      isplitl [B11]; · iexact B11
      isplitl [B12]; · iexact B12
      isplitl [B13]; · iexact B13
      iexact B14
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    iexact S10

end Cert.Proof.Mix

end
-- ==== Proof.Split.lean ====
/-
  The arrays dealt to the tiles: the index array, the points and the result cut into the chunks of the thirty-two tiles,
  the parameters' tables shared among them.
-/
module

public import proofs.«01_k».proof.Proof.Tile

@[expose] public section

noncomputable section

namespace Cert.Proof.Mix

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The tiles by number -/

/-- The tile `s` of SparseCore `c`. -/
def coordsV (c : Fin 2) (s : Fin 16) : grid0.Coords :=
  fun | 0 => c | 1 => s | ⟨_ + 2, h⟩ => absurd h (Nat.not_lt.2 (Nat.le_add_left _ _))

theorem coordsV_zero (c : Fin 2) (s : Fin 16) : (coordsV c s 0).val = c.val := rfl
theorem coordsV_one (c : Fin 2) (s : Fin 16) : (coordsV c s 1).val = s.val := rfl

/-- Tile `(c, s)`'s share of the parameters. -/
def tileShare (c : Fin 2) (s : Fin 16) : PosShare TreeShare := Transfers.dealOf (Transfers.dealOf fullShare Finset.univ c) Finset.univ s

/-! ## The chunks cut an array -/

/-- A chunk's number: its tile, its buffer, its trip. -/
abbrev CIx : Type := (Fin 2 × Fin 16) × Fin 4 × Fin 4

/-- The elements of a chunk. -/
def cSet (k : CIx) : Finset S4194304.Idx := (cRect (coordsV k.1.1 k.1.2) k.2.2 k.2.1).set

theorem mem_cSet (k : CIx) (i : S4194304.Idx) :
    i ∈ cSet k ↔ 262144 * k.1.2.val + 131072 * k.1.1.val + 32768 * k.2.2.val + 8192 * k.2.1.val ≤ (i 0).val
      ∧ (i 0).val < 262144 * k.1.2.val + 131072 * k.1.1.val + 32768 * k.2.2.val + 8192 * k.2.1.val + 8192 := by
  unfold cSet
  rw [Rect.mem_set_unit]
  constructor
  · intro h; exact h 0
  · intro h a
    match a with
    | 0 => exact h

theorem cSet_disjoint : ∀ k ∈ (Finset.univ : Finset CIx), ∀ k' ∈ (Finset.univ : Finset CIx), k ≠ k' → Disjoint (cSet k) (cSet k') := by
  rintro ⟨⟨c, s⟩, b, t⟩ - ⟨⟨c', s'⟩, b', t'⟩ - hne
  rw [Finset.disjoint_left]
  intro i hi hi'
  rw [mem_cSet] at hi hi'
  simp only at hi hi'
  refine hne ?_
  have := c.isLt; have := c'.isLt; have := s.isLt; have := s'.isLt
  have := b.isLt; have := b'.isLt; have := t.isLt; have := t'.isLt
  have hc : c = c' := Fin.ext (by omega)
  have hs : s = s' := Fin.ext (by omega)
  have hb : b = b' := Fin.ext (by omega)
  have ht : t = t' := Fin.ext (by omega)
  rw [hc, hs, hb, ht]

theorem cSet_cover : (Finset.univ : Finset CIx).biUnion cSet = Finset.univ := by
  refine Finset.eq_univ_of_forall fun i => Finset.mem_biUnion.mpr ?_
  have hi : (i 0).val < 4194304 := (i 0).isLt
  refine ⟨((⟨(i 0).val / 131072 % 2, by omega⟩, ⟨(i 0).val / 262144, by omega⟩),
    ⟨(i 0).val / 8192 % 4, by omega⟩, ⟨(i 0).val / 32768 % 4, by omega⟩), Finset.mem_univ _, ?_⟩
  rw [mem_cSet]
  simp only
  omega

variable (d : Dev nD)

/-- An array is its pieces, by tile, buffer and trip. -/
theorem chunks_of {ℓ : Loc nD τ sig} (cs : CIx → Finset (Idx ℓ)) (hd : ∀ k ∈ (Finset.univ : Finset CIx), ∀ k' ∈ (Finset.univ : Finset CIx), k ≠ k' → Disjoint (cs k) (cs k'))
    (hc : (Finset.univ : Finset CIx).biUnion cs = Finset.univ) (f : Buf (Elt F) ℓ) :
    (iprop(ℓ ↦{fullShare} f) : PP F) = bigSep Finset.univ fun c : Fin 2 => bigSep Finset.univ fun s : Fin 16 => bigSep Finset.univ fun b : Fin 4 =>
      bigSep Finset.univ fun t : Fin 4 => iprop(ℓ ↦[cs ((c, s), b, t)]{fullShare} f) := by
  rw [← hc, pointsTo_biUnion Finset.univ (ℓ := ℓ) cs hd, bigSep_univ_prod, bigSep_univ_prod]
  refine bigSep_congr fun c _ => bigSep_congr fun s _ => ?_
  rw [bigSep_univ_prod]

theorem z_chunks (f : S4194304.Idx → Elt F .i32) :
    (iprop(zLoc d ↦{fullShare} f) : PP F) = bigSep Finset.univ fun c => bigSep Finset.univ fun s => bigSep Finset.univ fun b =>
      bigSep Finset.univ (zAt d (coordsV c s) f b) := by
  refine (chunks_of (ℓ := zLoc d) cSet cSet_disjoint cSet_cover f).trans ?_
  refine bigSep_congr fun c _ => bigSep_congr fun s _ => bigSep_congr fun b _ => bigSep_congr fun t _ => ?_
  exact congrArg (fun S => (iprop(zLoc d ↦[S]{fullShare} f) : PP F)) ((View.set_slice _ _).trans Finset.map_refl).symm

theorem x_chunks (f : S4194304.Idx → Elt F .f32) :
    (iprop(xLoc d ↦{fullShare} f) : PP F) = bigSep Finset.univ fun c => bigSep Finset.univ fun s => bigSep Finset.univ fun b =>
      bigSep Finset.univ (xAt d (coordsV c s) f b) := by
  refine (chunks_of (ℓ := xLoc d) cSet cSet_disjoint cSet_cover f).trans ?_
  refine bigSep_congr fun c _ => bigSep_congr fun s _ => bigSep_congr fun b _ => bigSep_congr fun t _ => ?_
  exact congrArg (fun S => (iprop(xLoc d ↦[S]{fullShare} f) : PP F)) ((View.set_slice _ _).trans Finset.map_refl).symm

theorem o_chunks (f : S4194304.Idx → Elt F .f32) :
    (iprop(oLoc d ↦{fullShare} f) : PP F) = bigSep Finset.univ fun c => bigSep Finset.univ fun s => bigSep Finset.univ fun b =>
      bigSep Finset.univ fun t => pts d (coordsV c s) (chunk oA (coordsV c s) t b) f := by
  refine (chunks_of (ℓ := oLoc d) cSet cSet_disjoint cSet_cover f).trans ?_
  refine bigSep_congr fun c _ => bigSep_congr fun s _ => bigSep_congr fun b _ => bigSep_congr fun t _ => ?_
  exact congrArg (fun S => (iprop(oLoc d ↦[S]{fullShare} f) : PP F)) ((View.set_slice _ _).trans Finset.map_refl).symm

/-! ## The parameters shared -/

/-- A table is the tiles' shares of it. -/
theorem shares_of {ℓ : Loc nD τ sig} (f : Buf (Elt F) ℓ) :
    (iprop(ℓ ↦{fullShare} f) : PP F) = bigSep Finset.univ fun c : Fin 2 => bigSep Finset.univ fun s : Fin 16 => iprop(ℓ ↦{tileShare c s} f) := by
  rw [Transfers.pointsTo_deal (Finset.univ : Finset (Fin 2)) Finset.univ_nonempty fullShare]
  refine bigSep_congr fun c _ => ?_
  rw [Transfers.pointsTo_deal (Finset.univ : Finset (Fin 16)) Finset.univ_nonempty]
  rfl

variable (p mu sd : S16.Idx → Elt F .f32) (z0 : S4194304.Idx → Elt F .i32) (x0 f : S4194304.Idx → Elt F .f32)

theorem params_shares :
    (iprop((pLoc d ↦{fullShare} p) ∗ (muLoc d ↦{fullShare} mu) ∗ (sdLoc d ↦{fullShare} sd)) : PP F)
      = bigSep Finset.univ fun c : Fin 2 => bigSep Finset.univ fun s : Fin 16 => params d (coordsV c s) p mu sd (tileShare c s) := by
  rw [shares_of (ℓ := pLoc d), shares_of (ℓ := muLoc d), shares_of (ℓ := sdLoc d)]
  simp only [← bigSep_sep']
  refine bigSep_congr fun c _ => bigSep_congr fun s _ => ?_
  unfold params
  rw [show (iprop(pLoc d ↦{tileShare c s} p) : PP F) = ptsAt d (coordsV c s) (tileShare c s) pA p from
      congrArg (fun S => (iprop(pLoc d ↦[S]{tileShare c s} p) : PP F)) (View.set_whole main_arg2_scv).symm,
    show (iprop(muLoc d ↦{tileShare c s} mu) : PP F) = ptsAt d (coordsV c s) (tileShare c s) muA mu from
      congrArg (fun S => (iprop(muLoc d ↦[S]{tileShare c s} mu) : PP F)) (View.set_whole main_arg3_scv).symm,
    show (iprop(sdLoc d ↦{tileShare c s} sd) : PP F) = ptsAt d (coordsV c s) (tileShare c s) sdA sd from
      congrArg (fun S => (iprop(sdLoc d ↦[S]{tileShare c s} sd) : PP F)) (View.set_whole main_arg4_scv).symm]

/-! ## A task's share of everything -/

theorem four_eq (Φ : Fin 4 → PP F) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-- The arrays, whole, the result's at contents `f`. -/
def arrays : PP F :=
  iprop(((pLoc d ↦{fullShare} p) ∗ (muLoc d ↦{fullShare} mu) ∗ (sdLoc d ↦{fullShare} sd))
    ∗ (zLoc d ↦{fullShare} z0) ∗ (xLoc d ↦{fullShare} x0) ∗ (oLoc d ↦{fullShare} f))

/-- The arrays are the tasks' shares. -/
theorem arrays_eq : arrays d p mu sd z0 x0 f
    = bigSep Finset.univ fun c : Fin 2 => bigSep Finset.univ fun s : Fin 16 => share d (coordsV c s) p mu sd (tileShare c s) z0 x0 f := by
  unfold arrays
  rw [params_shares, z_chunks, x_chunks, o_chunks]
  simp only [← bigSep_sep']
  refine bigSep_congr fun c _ => bigSep_congr fun s _ => ?_
  unfold share
  rw [← four_eq (pieces d (coordsV c s) z0 x0 f)]
  unfold pieces
  simp only [← bigSep_sep']

end Cert.Proof.Mix

end
-- ==== Proof.Launch.lean ====
/-
  The launch: what the call gives each task and takes back, and the program's run from any memory whose indices are in
  range. At its end the arguments are as they were and the result is `ans` of them.
-/
module

public import proofs.«01_k».proof.Proof.Own
public import proofs.«01_k».proof.Proof.Split

@[expose] public section

noncomputable section

namespace Cert.Proof.Mix

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## What the handshakes carry -/

/-- The result of device `d`, from its arguments in memory. -/
def outVal (d : Dev nD) : S4194304.Idx → Elt F .f32 := ans (m (pLoc d)) (m (muLoc d)) (m (sdLoc d)) (m (zLoc d)) (m (xLoc d))

/-- The share of task `(c, s)`, the result's at contents `f`. -/
def taskShare (d : Dev nD) (f : S4194304.Idx → Elt F .f32) (c : Fin 2) (s : Fin 16) : PP F :=
  share d (coordsV c s) (m (pLoc d)) (m (muLoc d)) (m (sdLoc d)) (tileShare c s) (m (zLoc d)) (m (xLoc d)) f

/-- The shares of SparseCore `c`'s tasks. -/
def coreShare (d : Dev nD) (f : S4194304.Idx → Elt F .f32) (c : Fin 2) : PP F := bigSep Finset.univ fun s : Fin 16 => taskShare m d f c s

instance taskShare_storable (d : Dev nD) (f : S4194304.Idx → Elt F .f32) (c : Fin 2) (s : Fin 16) : BI.Storable (upEmb : UEmb _ 𝕄) (taskShare m d f c s) := by
  unfold taskShare share params pieces
  infer_instance

instance coreShare_storable (d : Dev nD) (f : S4194304.Idx → Elt F .f32) (c : Fin 2) : BI.Storable (upEmb : UEmb _ 𝕄) (coreShare m d f c) := by
  unfold coreShare
  infer_instance

/-- The call takes each SparseCore its tasks' shares and each task its own, and brings them back with the result. -/
def P : (K (F := F)).Pay (nD := nD) (Val := Elt F) (Name := ℕ) (U := UU) where
  st := fun q d c => match q with | 0 => coreShare m d (m (oLoc d)) (Fin.cast nCore_zero c)
  dn := fun q d c => match q with | 0 => coreShare m d (outVal m d) (Fin.cast nCore_zero c)
  go := fun q d c i => match q with | 0 => taskShare m d (m (oLoc d)) (Fin.cast nCore_zero c) (Fin.cast nSub_zero i)
  td := fun q d c i => match q with | 0 => taskShare m d (outVal m d) (Fin.cast nCore_zero c) (Fin.cast nSub_zero i)
  x := fun _ _ => iprop(emp)

instance P_storable : (P (F := F) m).IsStorable where
  st q d c := match q with | 0 => coreShare_storable m d (m (oLoc d)) (Fin.cast nCore_zero c)
  dn q d c := match q with | 0 => coreShare_storable m d (outVal m d) (Fin.cast nCore_zero c)
  go q d c i := match q with | 0 => taskShare_storable m d (m (oLoc d)) (Fin.cast nCore_zero c) (Fin.cast nSub_zero i)
  td q d c i := match q with | 0 => taskShare_storable m d (outVal m d) (Fin.cast nCore_zero c) (Fin.cast nSub_zero i)

theorem P_st (d : Dev nD) (c : Fin ((K (F := F)).nCore 0)) : (P m).st 0 d c = coreShare m d (m (oLoc d)) (Fin.cast nCore_zero c) := by
  delta P; dsimp only
theorem P_dn (d : Dev nD) (c : Fin ((K (F := F)).nCore 0)) : (P m).dn 0 d c = coreShare m d (outVal m d) (Fin.cast nCore_zero c) := by
  delta P; dsimp only
theorem P_go (d : Dev nD) (c : Fin ((K (F := F)).nCore 0)) (i : Fin ((K (F := F)).nSub 0)) :
    (P m).go 0 d c i = taskShare m d (m (oLoc d)) (Fin.cast nCore_zero c) (Fin.cast nSub_zero i) := by
  delta P; dsimp only
theorem P_td (d : Dev nD) (c : Fin ((K (F := F)).nCore 0)) (i : Fin ((K (F := F)).nSub 0)) :
    (P m).td 0 d c i = taskShare m d (outVal m d) (Fin.cast nCore_zero c) (Fin.cast nSub_zero i) := by
  delta P; dsimp only

/-- Every index is below sixteen. -/
def PreOK : Prop := ∀ (d : Dev nD) (i : S4194304.Idx), (m (zLoc d) i).toNat < 16

/-! ## The task's obligation -/

theorem waited_start (d : Dev nD) (L : grid0.Coords) (O : CellTallies nD τ sig (HIx 1)) (W : Waits sig (HIx 1)) :
    owes (thr d L) O W ⊢ waited (F := F) d L O W := by
  unfold waited
  iintro H
  iexists W
  isplitr
  · ipureintro; exact fun p hp => Or.inl hp
  · iexact H

theorem tile_body (d : Dev nD) (c : Fin 2) (s : Fin 16) (hF : (K (F := F)).Facts) (hpre : PreOK m) (O : CellTallies nD τ sig (HIx 1))
    (W : Waits sig (HIx 1)) (hO : ∀ g, O g none = 0) :
    iprop(levAts (K (F := F)).L (K (F := F)).lev ∗ emp ∗ taskShare m d (m (oLoc d)) c s
        ∗ scopedBufs (thr d (coordsV c s)) ∗ scopedSems0 (thr d (coordsV c s)) ∗ owes (thr d (coordsV c s)) O W)
      ⊢ wpT d (coordsV c s) (cc0_sc_kernel (coordsV c s) zA (Memref.isWhole_whole _) xA (Memref.isWhole_whole _) pA (Memref.isWhole_whole _) muA (Memref.isWhole_whole _)
          sdA (Memref.isWhole_whole _) oA (Memref.isWhole_whole _) kB (Memref.isWhole_whole _) muB (Memref.isWhole_whole _) siB (Memref.isWhole_whole _)
          (Memref.whole cc0_scratch3) (Memref.isWhole_whole _) (Memref.whole cc0_scratch4) (Memref.isWhole_whole _)
          (Memref.whole cc0_scratch5) (Memref.isWhole_whole _) (Memref.whole cc0_scratch6) (Memref.isWhole_whole _)
          (Memref.whole cc0_scratch7) (Memref.isWhole_whole _) (Memref.whole cc0_scratch8) (Memref.isWhole_whole _)
          (Memref.whole cc0_scratch9) (Memref.isWhole_whole _) (Memref.whole cc0_scratch10) (Memref.isWhole_whole _)
          (Memref.whole cc0_scratch11) (Memref.isWhole_whole _) (Memref.whole cc0_scratch12) (Memref.isWhole_whole _)
          (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 cc0_scratch22
          cc0_scoped0 cc0_scoped1 cc0_scoped2)
        fun _ => iprop(taskShare m d (outVal m d) c s ∗ scopedBufs (thr d (coordsV c s)) ∗ scopedSems0 (thr d (coordsV c s))
          ∗ ∃ W', ⌜∀ p ∈ W', p ∈ W ∨ p.2 = none⌝ ∗ owes (thr d (coordsV c s)) O W') := by
  rw [(K (F := F)).scopedBufs_V hF d (cV (coordsV c s)) (jV (coordsV c s)),
    SparseCore.Cfg.scopedSems0_V (Val := Elt F) d (cV (coordsV c s)) (jV (coordsV c s)), ownBufs_eq, ownSems_eq]
  unfold taskShare
  iintro ⟨#Hlv, -, Hsh, ⟨Hb, Hob⟩, ⟨Hs, Hos⟩, HO⟩
  ihave Hmw := (show levAts (K (F := F)).L (K (F := F)).lev ⊢ Transfers.MayWaits (thr d (coordsV c s)) ι₀ O from
    (K (F := F)).mayWaits_none (thr := thr d (coordsV c s)) hO) $$ Hlv
  ihave Hr := (Entails.of_eq (rest_eq (F := F) d (coordsV c s))) $$ [Hb Hs]
  · isplitl [Hb] <;> iassumption
  ihave HW := (waited_start d (coordsV c s) O W) $$ HO
  iapply (wp_wand frame _ _) $$ [Hsh Hr HW]
  · iapply (task d (coordsV c s) (m (pLoc d)) (m (muLoc d)) (m (sdLoc d)) (tileShare c s) (m (zLoc d)) (m (xLoc d)) (m (oLoc d)) O W (hpre d))
    isplitr; · iexact Hmw
    isplitl [Hsh]; · iexact Hsh
    isplitl [Hr]; · iexact Hr
    iexact HW
  iintro %a ⟨Hsh, Hr, HW⟩
  ihave Hr := (Entails.of_eq (rest_eq (F := F) d (coordsV c s)).symm) $$ Hr
  icases Hr with ⟨Hb, Hs⟩
  isplitl [Hsh]; · iexact Hsh
  isplitl [Hb Hob]; · isplitl [Hb] <;> iassumption
  isplitl [Hs Hos]; · isplitl [Hs] <;> iassumption
  iapply (waited_owes d (coordsV c s) O W) $$ HW

theorem defs₀_vector (c : Fin τ.nSC) (s : Fin τ.nSub) :
    defs₀ (F := F) (.scVector c s) 0 ()
      = SparseCore.onTile hcore0 hsub0 (fun c s => cc0_sc_kernel (coordsV c s) zA (Memref.isWhole_whole _) xA (Memref.isWhole_whole _) pA (Memref.isWhole_whole _) muA (Memref.isWhole_whole _)
          sdA (Memref.isWhole_whole _) oA (Memref.isWhole_whole _) kB (Memref.isWhole_whole _) muB (Memref.isWhole_whole _) siB (Memref.isWhole_whole _)
          (Memref.whole cc0_scratch3) (Memref.isWhole_whole _) (Memref.whole cc0_scratch4) (Memref.isWhole_whole _)
          (Memref.whole cc0_scratch5) (Memref.isWhole_whole _) (Memref.whole cc0_scratch6) (Memref.isWhole_whole _)
          (Memref.whole cc0_scratch7) (Memref.isWhole_whole _) (Memref.whole cc0_scratch8) (Memref.isWhole_whole _)
          (Memref.whole cc0_scratch9) (Memref.isWhole_whole _) (Memref.whole cc0_scratch10) (Memref.isWhole_whole _)
          (Memref.whole cc0_scratch11) (Memref.isWhole_whole _) (Memref.whole cc0_scratch12) (Memref.isWhole_whole _)
          (Memref.whole cc0_scratch13) (Memref.isWhole_whole _) (Memref.whole cc0_scratch14) (Memref.isWhole_whole _)
          cc0_scratch15 cc0_scratch16 cc0_scratch17 cc0_scratch18 cc0_scratch19 cc0_scratch20 cc0_scratch21 cc0_scratch22
          cc0_scoped0 cc0_scoped1 cc0_scoped2) ⟨⟩ c s := rfl

theorem obl_post {th : Thread nD τ} {A B C : PP F} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d ⟨_, hci.1⟩ ⟨_, hci.2⟩ hF hpre O W hO).trans (wp_mono frame _ _ fun _ => obl_post)

/-! ## The tasks of a SparseCore -/

theorem bigSep_tasks (Φ : Fin 16 → PP F) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → PP F) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  simp only [P_st, P_dn, P_go, P_td]
  rw [bigSep_tasks (F := F) (taskShare m d (m (oLoc d)) (Fin.cast nCore_zero c)), bigSep_tasks (F := F) (taskShare m d (outVal m d) (Fin.cast nCore_zero c))]
  unfold coreShare
  iintro H; imodintro
  isplitl [H]; · iexact H
  iintro H; iexact H

/-! ## The launch's ghost state -/

def u₀ : UU := (initOf (K (F := F)).hsCells (K (F := F)).hsToks, 1)

theorem bigSep_emp' {I : Type} (s : Finset I) : (bigSep s fun _ => iprop(emp)) = (iprop(emp) : PP F) := bigSep_emp_const s

theorem hu₀ : (ownU (u₀ (F := F)) : PP F)
    ⊢ |={Set.univ}=> iprop(BI.own (EH (initOf (K (F := F)).hsCells (K (F := F)).hsToks)) ∗ (bigSep Finset.univ fun _ : Dev nD => iprop(emp))
        ∗ bigSep Finset.univ fun th : Thread nD τ => bigSep Finset.univ fun q : Fin 1 => (P m).x q th) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun th : Thread nD τ => bigSep Finset.univ fun q : Fin 1 => (P (F := F) m).x q th) = bigSep Finset.univ fun _ => iprop(emp) from
    bigSep_congr fun _ _ => bigSep_univ_of_subsingleton (0 : Fin 1), bigSep_emp']
  iempintro

/-! ## The program on the TensorCore -/

theorem unscopedBufs_eq (d : Dev nD) (W : (b : Ref sig .tc) → Buf (Elt F) ((d.tc : Thread nD τ).loc b)) :
    (unscopedBufs d W : PP F) = iprop((zLoc d ↦{fullShare} W main_arg0) ∗ (xLoc d ↦{fullShare} W main_arg1) ∗ (pLoc d ↦{fullShare} W main_arg2)
      ∗ (muLoc d ↦{fullShare} W main_arg3) ∗ (sdLoc d ↦{fullShare} W main_arg4) ∗ oLoc d ↦{fullShare} W main_v0) := by
  unfold unscopedBufs
  rw [show (Finset.univ.filter fun b : Ref sig .tc => ¬ b.isScoped) = {main_arg0, main_arg1, main_arg2, main_arg3, main_arg4, main_v0} by decide,
    SparseCore.bigSep_insert' (by decide), SparseCore.bigSep_insert' (by decide), SparseCore.bigSep_insert' (by decide),
    SparseCore.bigSep_insert' (by decide), SparseCore.bigSep_insert' (by decide), bigSep_singleton]

/-- The arguments in memory, the result at contents `f`. -/
abbrev mems (d : Dev nD) (f : S4194304.Idx → Elt F .f32) : PP F := arrays d (m (pLoc d)) (m (muLoc d)) (m (sdLoc d)) (m (zLoc d)) (m (xLoc d)) f

theorem st0_eq (d : Dev nD) : (bigSep Finset.univ fun c : Fin ((K (F := F)).nCore 0) => (P m).st 0 d c) = mems m d (m (oLoc d)) := by
  simp only [P_st]
  rw [bigSep_cores (coreShare m d (m (oLoc d))), mems, arrays_eq]
  rfl
theorem dn0_eq (d : Dev nD) : (bigSep Finset.univ fun c : Fin ((K (F := F)).nCore 0) => (P m).dn 0 d c) = mems m d (outVal m d) := by
  simp only [P_dn]
  rw [bigSep_cores (coreShare m d (outVal m d)), mems, arrays_eq]
  rfl

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ mems m d (outVal m d) ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hz, Hx, Hp, Hmu, Hsd, Ho⟩, Hts, -⟩, -⟩
  iapply ((K (F := F)).wp_run (D (F := F)) 𝒱 (EH := EH) (P := P m) κ d 0) $$ [Hst Hz Hx Hp Hmu Hsd Ho Hb Hts]
  isplitr; · iexact Hctx
  isplitl [Hst]; · iexact Hst
  isplitl [Hz Hx Hp Hmu Hsd Ho]
  · rw [st0_eq]
    unfold mems arrays
    isplitl [Hp Hmu Hsd]
    · isplitl [Hp]; · iexact Hp
      isplitl [Hmu]; · iexact Hmu
      iexact Hsd
    isplitl [Hz]; · iexact Hz
    isplitl [Hx]; · iexact Hx
    iexact Ho
  iintro ⟨Hst, Hdn⟩
  ihave Hdn := (Entails.of_eq (dn0_eq m d)) $$ Hdn
  imodintro
  isplitl [Hst]; · iexact Hst
  isplitl [Hdn]; · iexact Hdn
  isplitl [Hb] <;> iassumption

/-- What the end of the run says of device `d`. -/
def fq (d : Dev nD) (s' : Phys nD τ sig (Elt F)) : Prop :=
  s'.mem.mem (oLoc d) = outVal m d ∧ s'.mem.mem (zLoc d) = m (zLoc d) ∧ s'.mem.mem (xLoc d) = m (xLoc d) ∧ s'.mem.mem (pLoc d) = m (pLoc d)
    ∧ s'.mem.mem (muLoc d) = m (muLoc d) ∧ s'.mem.mem (sdLoc d) = m (sdLoc d)

/-- A whole array owned is what memory has there. -/
theorem agree {s' : Phys nD τ sig (Elt F)} {ℓ : Loc nD τ sig} {f : Buf (Elt F) ℓ} :
    iprop(SI s' ∗ (ℓ ↦{fullShare} f)) ⊢ (iprop(⌜s'.mem.mem ℓ = f⌝ ∗ SI s') : PP F) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  · iexact HSI

set_option maxRecDepth 16384 in
theorem hfin (d : Dev nD) (s' : Phys nD τ sig (Elt F)) : iprop(mems m d (outVal m d) ∗ SI s') ⊢ (⌜fq m d s'⌝ : PP F) := by
  unfold mems arrays
  iintro ⟨⟨⟨Hp, Hmu, Hsd⟩, Hz, Hx, Ho⟩, HSI⟩
  ihave H := (agree (ℓ := oLoc d)) $$ [HSI Ho]
  · isplitl [HSI] <;> iassumption
  icases H with ⟨%h0, HSI⟩
  ihave H := (agree (ℓ := zLoc d)) $$ [HSI Hz]
  · isplitl [HSI] <;> iassumption
  icases H with ⟨%h1, HSI⟩
  ihave H := (agree (ℓ := xLoc d)) $$ [HSI Hx]
  · isplitl [HSI] <;> iassumption
  icases H with ⟨%h2, HSI⟩
  ihave H := (agree (ℓ := pLoc d)) $$ [HSI Hp]
  · isplitl [HSI] <;> iassumption
  icases H with ⟨%h3, HSI⟩
  ihave H := (agree (ℓ := muLoc d)) $$ [HSI Hmu]
  · isplitl [HSI] <;> iassumption
  icases H with ⟨%h4, HSI⟩
  ihave H := (agree (ℓ := sdLoc d)) $$ [HSI Hsd]
  · isplitl [HSI] <;> iassumption
  icases H with ⟨%h5, HSI⟩
  ipureintro
  exact ⟨h0, h1, h2, h3, h4, h5⟩

/-! ## The run -/

def QC : PUnit × MemSt nD τ sig (Elt F) → Prop := fun r =>
  (∀ d : Dev nD, r.2.mem (oLoc d) = outVal m d ∧ r.2.mem (zLoc d) = m (zLoc d) ∧ r.2.mem (xLoc d) = m (xLoc d) ∧ r.2.mem (pLoc d) = m (pLoc d)
    ∧ r.2.mem (muLoc d) = m (muLoc d) ∧ r.2.mem (sdLoc d) = m (sdLoc d)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (fun d => mems m d (outVal m d)) (u₀ (F := F)) (sep_elim_left.trans (hu₀ m)) (hmain m ρ) (fq m) (hfin m) (QC m)
    (fun _ h hz => ⟨h, hz⟩)

end Cert.Proof.Mix

end
-- ==== Proof.Pre.lean ====
/- What the preconditions say: every index of `z` is below sixteen, and (for the value claim) no
   standard deviation is zero. A conjunction over an array is printed as a fold of `and`, so the
   entries' conditions come out of the fold first. -/
module

public import proofs.«01_k».proof.Proof.Launch
public import Idealize.ShloMosaic.Lib.IdealHost
public import proofs.«01_k».proof.Proof.Gen.Pre_z_in_range
public import proofs.«01_k».proof.Proof.Gen.Pre_z_in_range_sd_nonzero

@[expose] public section

noncomputable section

namespace Cert.Proof.Mix

open Idealize.ShloMosaic

/-- A fold of `and` answers one exactly when it starts at one and meets only ones. -/
theorem foldl_and_one {β : Type} (g : β → BitVec 1) (l : List β) (r : BitVec 1) :
    l.foldl (fun r n => IntOp.andi r (g n)) r = 1#1 ↔ r = 1#1 ∧ ∀ n ∈ l, g n = 1#1 := by
  have two : ∀ a b : BitVec 1, IntOp.andi a b = 1#1 ↔ a = 1#1 ∧ b = 1#1 := by decide
  induction l generalizing r with
  | nil => simp
  | cons n l ih => simp only [List.foldl_cons, ih, two, List.mem_cons, forall_eq_or_imp, and_assoc]

/-- A reduction by `and` is one at `j` exactly when it starts at one and every entry that reduces to `j` is one. -/
theorem reduce_and_one {s t u : Shape} {axes : List (Fin s.rank)} (x : IVec s 1) (init : IVec u 1)
    (h : s.ReducesTo axes t) (hu : 0 < u.numel) (j : t.Idx) :
    Host.reduce IntOp.andi x init h hu j = 1#1
      ↔ init (Shape.Idx.first hu) = 1#1 ∧ ∀ i, h.drop i = j → x i = 1#1 := by
  unfold Host.reduce
  rw [foldl_and_one]
  refine and_congr_right fun _ => ⟨fun e i hi => ?_, fun e n hn => ?_⟩
  · have := e (s.rowMajor i) (List.mem_filter.mpr ⟨List.mem_finRange _, by simpa using hi⟩)
    simpa using this
  · exact e _ (by simpa using (List.mem_filter.mp hn).2)

/-- The printed range test of one word. -/
theorem word_in_range (v : BitVec 32)
    (e : IntOp.andi (IntOp.cmpi .sge v 0#32) (IntOp.cmpi .slt v 16#32) = 1#1) : v.toNat < 16 := by
  have and_bits (p q : Bool) : IntOp.andi (BitVec.ofBool p) (BitVec.ofBool q) = BitVec.ofBool (p && q) := by
    cases p <;> cases q <;> rfl
  have bit_one (p : Bool) : (BitVec.ofBool p = 1#1) ↔ p = true := by cases p <;> decide
  simp only [IntOp.cmpi, and_bits, bit_one, Bool.and_eq_true, BitVec.sle_eq_decide, BitVec.slt_eq_decide,
    decide_eq_true_eq, BitVec.toInt_eq_toNat_cond, BitVec.toNat_ofNat, Nat.reducePow, Nat.reduceMod] at e
  omega

/-- The range precondition, entry by entry. -/
theorem range_of_pre {F : FTy → Type} [FloatOps F] (z x p mu sd)
    (h : Cert.Pre_z_in_range.fn (F := F) z x p mu sd = fun _ => 1#1) (i : Cert.Pre_z_in_range.S4194304.Idx) :
    (z i).toNat < 16 := by
  have e := congrFun h (Shape.Idx.first Cert.Pre_z_in_range.Gen.h_S_)
  simp only [Cert.Pre_z_in_range.fn] at e
  exact word_in_range _ (((reduce_and_one _ _ _ _ _).mp e).2 i (funext fun a => a.elim0))

/-- The value claim's precondition, entry by entry: the range of `z`, and no deviation zero. -/
theorem range_of_pre_sd (z x p mu sd)
    (h : Cert.Pre_z_in_range_sd_nonzero.fn (F := Ideal) z x p mu sd = fun _ => 1#1) :
    (∀ i, (z i).toNat < 16) ∧ ∀ k, sd k ≠ (0 : EReal) := by
  have two : ∀ a b : BitVec 1, IntOp.andi a b = 1#1 → a = 1#1 ∧ b = 1#1 := by decide
  have e := congrFun h (Shape.Idx.first Cert.Pre_z_in_range_sd_nonzero.Gen.h_S_)
  simp only [Cert.Pre_z_in_range_sd_nonzero.fn] at e
  obtain ⟨ez, es⟩ := two _ _ e
  refine ⟨fun i => word_in_range _ (((reduce_and_one _ _ _ _ _).mp ez).2 i (funext fun a => a.elim0)), fun k hk => ?_⟩
  have ne := ((reduce_and_one _ _ _ _ _).mp es).2 k (funext fun a => a.elim0)
  change BitVec.ofBool (decide (sd k ≠ Ideal.ofBits .f32 0x00000000#32)) = 1#1 at ne
  rw [Ideal.ofBits_zero_f32, hk] at ne
  simp at ne

end Cert.Proof.Mix

end
-- ==== Proof.Reference.lean ====
/- What the reference computes at one element. `take` reads a table of sixteen at an index: a
   negative index first has sixteen added, the read is clamped into the table, and an index out of
   range answers a fill value. An index from 0 to 15 passes through all three, so the result is the
   table's entry. The rest of the reference is elementwise. -/
module

public import proofs.«01_k».proof.Proof.Pre
public import proofs.«01_k».proof.Proof.Gen.ReferenceIdeal.Run

@[expose] public section

noncomputable section

namespace Cert.Proof.Mix.Ref

open Cert.ReferenceIdeal Cert.ReferenceIdeal.Gen Idealize.ShloMosaic Idealize.ShloMosaic.TcCoe

/-- The indices as `take` uses them: sixteen added to the negative ones. -/
def wrapped (z : S4194304.Idx → BitVec 32) : S4194304.Idx → BitVec 32 :=
  select (cmpi .slt z (broadcastInDim S4194304 ![] bcast_S_S4194304 (constantI S_ 32 0#32)))
    (addi z (broadcastInDim S4194304 ![] bcast_S_S4194304 (constantI S_ 32 16#32))) z

/-- The same as a column, one index vector of length one per element. -/
def column (z : S4194304.Idx → BitVec 32) : S4194304x1.Idx → BitVec 32 :=
  broadcastInDim S4194304x1 ![0] bcast_S4194304_S4194304x1_0 (wrapped z)

/-- Which indices lie in the table. -/
def inside (z : S4194304.Idx → BitVec 32) : S4194304.Idx → BitVec 1 :=
  Host.reduce IntOp.andi
    (andi (cmpi .sge (column z) (broadcastInDim S4194304x1 ![] bcast_S_S4194304x1 (constantI S_ 32 0#32)))
      (cmpi .sle (column z) (broadcastInDim S4194304x1 ![0, 1] bcast_S1x1_S4194304x1_0_1
        (broadcastInDim S1x1 ![1] bcast_S1_S1x1_1 (constantI S1 32 15#32)))))
    (constantI S_ 1 1#1) reducesTo_S4194304x1_S4194304_d1 h_S_

/-- `take` of a table of sixteen. -/
def taken (t : S16.Idx → EReal) (z : S4194304.Idx → BitVec 32) : S4194304.Idx → EReal :=
  select (inside z) (Host.gather gather_S16_S4194304x1_S4194304_n_0_n_n_0_1_1 t (column z))
    (broadcastInDim S4194304 ![] bcast_S_S4194304 (constant (F := Ideal) S_ .f32 0x7FC00000#32))

/-- A word below sixteen is not negative, so it is not wrapped. -/
theorem wrapped_at (z : S4194304.Idx → BitVec 32) (i : S4194304.Idx) (h : (z i).toNat < 16) : wrapped z i = z i := by
  have e : IntOp.cmpi .slt (z i) 0#32 = 0#1 := by
    simp only [IntOp.cmpi, BitVec.slt_eq_decide, BitVec.toInt_eq_toNat_cond, BitVec.toNat_ofNat, Nat.reducePow, Nat.reduceMod]
    rw [decide_eq_false (by omega)]; rfl
  show Scalar.select (IntOp.cmpi .slt (z i) 0#32) _ (z i) = z i
  rw [e]; rfl

/-- The column at a row is the wrapped index of that row. -/
theorem column_at (z : S4194304.Idx → BitVec 32) (j : S4194304x1.Idx) :
    ∃ i : S4194304.Idx, (∀ a, (i a).val = (j 0).val) ∧ column z j = wrapped z i := by
  refine ⟨fun a => ⟨(j 0).val, match a with | 0 => (j 0).isLt⟩, fun a => rfl, congrArg (wrapped z) (funext fun a => Fin.ext ?_)⟩
  match a with
  | 0 => rfl

/-- An array of indices below sixteen lies inside the table everywhere. -/
theorem inside_one (z : S4194304.Idx → BitVec 32) (h : ∀ i, (z i).toNat < 16) (i : S4194304.Idx) : inside z i = 1#1 := by
  refine (reduce_and_one _ _ _ _ _).mpr ⟨rfl, fun j _ => ?_⟩
  obtain ⟨k, -, e⟩ := column_at z j
  show IntOp.andi (IntOp.cmpi .sge (column z j) 0#32) (IntOp.cmpi .sle (column z j) 15#32) = 1#1
  rw [e, wrapped_at z k (h k)]
  have hk := h k
  have a : IntOp.cmpi .sge (z k) 0#32 = 1#1 := by
    simp only [IntOp.cmpi, BitVec.sle_eq_decide, BitVec.toInt_eq_toNat_cond, BitVec.toNat_ofNat, Nat.reducePow, Nat.reduceMod]
    rw [decide_eq_true (by omega)]; rfl
  have b : IntOp.cmpi .sle (z k) 15#32 = 1#1 := by
    simp only [IntOp.cmpi, BitVec.sle_eq_decide, BitVec.toInt_eq_toNat_cond, BitVec.toNat_ofNat, Nat.reducePow, Nat.reduceMod]
    rw [decide_eq_true (by omega)]; rfl
  rw [a, b]; rfl

/-- The clamped read at an element whose index is below sixteen. -/
theorem gather_at (t : S16.Idx → EReal) (z : S4194304.Idx → BitVec 32) (i : S4194304.Idx) (h : (z i).toNat < 16) :
    Host.gather gather_S16_S4194304x1_S4194304_n_0_n_n_0_1_1 t (column z) i = t (at16 (z i)) := by
  unfold Host.gather
  refine congrArg t (funext fun a => Fin.ext ?_)
  obtain rfl : a = 0 := Subsingleton.elim _ _
  have hb := GatherDims.batchCoord_eq_zero gather_S16_S4194304x1_S4194304_n_0_n_n_0_1_1 i (0 : Fin 1) List.not_mem_nil
  have ho := GatherDims.offCoord_eq_zero gather_S16_S4194304x1_S4194304_n_0_n_n_0_1_1 i (0 : Fin 1)
    (fun k => ((GatherDims.mem_sKept _ _).mp k).1 (List.mem_singleton.mpr rfl))
  show gather_S16_S4194304x1_S4194304_n_0_n_n_0_1_1.start i (column z) 0
    + gather_S16_S4194304x1_S4194304_n_0_n_n_0_1_1.batchCoord i 0
    + gather_S16_S4194304x1_S4194304_n_0_n_n_0_1_1.offCoord i 0 = (z i).toNat % 16
  rw [hb, ho]
  show gather_S16_S4194304x1_S4194304_n_0_n_n_0_1_1.start i (column z) 0 = (z i).toNat % 16
  unfold GatherDims.start
  rw [dif_pos (show (0 : Fin 1) ∈ gather_S16_S4194304x1_S4194304_n_0_n_n_0_1_1.startIndexMap from List.mem_singleton.mpr rfl)]
  generalize hj : gather_S16_S4194304x1_S4194304_n_0_n_n_0_1_1.siIdx i _ = j
  obtain ⟨k, hk, e⟩ := column_at z j
  have hki : k = i := funext fun a => Fin.ext (by
    match a with
    | 0 => exact (hk 0).trans (by rw [← hj]; rfl))
  subst hki
  rw [e, wrapped_at z k h]
  show min (z k).toInt.toNat 15 = _
  rw [BitVec.toInt_eq_toNat_cond]
  split <;> omega

/-- `take` at indices below sixteen reads the table. -/
theorem taken_at (t : S16.Idx → EReal) (z : S4194304.Idx → BitVec 32) (h : ∀ i, (z i).toNat < 16) (i : S4194304.Idx) :
    taken t z i = t (at16 (z i)) := by
  have pick (c : S4194304.Idx → BitVec 1) (a b : S4194304.Idx → EReal) (hc : c i = 1#1) : select c a b i = a i :=
    (show Scalar.select (c i) (a i) (b i) = a i by rw [hc]; rfl)
  unfold taken
  exact (pick _ _ _ (inside_one z h i)).trans (gather_at t z i (h i))

/-- The reference's result at one element, of that element's `x` and its component's log probability, mean and
    deviation. -/
def val (x lp mu sd : EReal) : EReal :=
  lp + ((Ideal.ofBits .f32 0xBF000000#32 * (Ideal.div (x - mu) sd * Ideal.div (x - mu) sd) - Ideal.log sd)
    - Ideal.ofBits .f32 0x3F000000#32 * Ideal.log (Ideal.ofBits .f32 0x40C90FDB#32))

/-- The reference's composed term, through `taken`. -/
theorem out_eq (m : (ℓ : Loc nD τ sig) → Buf (Elt Ideal) ℓ) (c : Dev nD) :
    Cert.ReferenceIdeal.Value.res_main_v16 m c
      = addf (F := Ideal) (φ := .f32) (taken (Host.log (F := Ideal) (φ := .f32) (m ((c.tc : Thread nD τ).loc main_arg2))) (m ((c.tc : Thread nD τ).loc main_arg0)))
          (subf (subf (mulf (broadcastInDim S4194304 ![] bcast_S_S4194304 (constant (F := Ideal) S_ .f32 0xBF000000#32))
              (mulf
                (Host.divf (subf (F := Ideal) (φ := .f32) (m ((c.tc : Thread nD τ).loc main_arg1)) (taken (m ((c.tc : Thread nD τ).loc main_arg3)) (m ((c.tc : Thread nD τ).loc main_arg0))))
                  (taken (m ((c.tc : Thread nD τ).loc main_arg4)) (m ((c.tc : Thread nD τ).loc main_arg0))))
                (Host.divf (subf (F := Ideal) (φ := .f32) (m ((c.tc : Thread nD τ).loc main_arg1)) (taken (m ((c.tc : Thread nD τ).loc main_arg3)) (m ((c.tc : Thread nD τ).loc main_arg0))))
                  (taken (m ((c.tc : Thread nD τ).loc main_arg4)) (m ((c.tc : Thread nD τ).loc main_arg0))))))
            (Host.log (F := Ideal) (φ := .f32) (taken (m ((c.tc : Thread nD τ).loc main_arg4)) (m ((c.tc : Thread nD τ).loc main_arg0)))))
            (broadcastInDim S4194304 ![] bcast_S_S4194304
              (id (mulf (constant (F := Ideal) S_ .f32 0x3F000000#32) (Host.log (constant (F := Ideal) S_ .f32 0x40C90FDB#32)))))) := by
  unfold Cert.ReferenceIdeal.Value.res_main_v16 taken inside column wrapped
  rfl

/-- The elementwise part at one element. -/
theorem parts_at (x lp mu sd : S4194304.Idx → EReal) (i : S4194304.Idx) :
    addf (F := Ideal) (φ := .f32) lp
        (subf (subf (mulf (broadcastInDim S4194304 ![] bcast_S_S4194304 (constant (F := Ideal) S_ .f32 0xBF000000#32))
            (mulf (Host.divf (subf (F := Ideal) (φ := .f32) x mu) sd) (Host.divf (subf (F := Ideal) (φ := .f32) x mu) sd)))
          (Host.log (F := Ideal) (φ := .f32) sd))
          (broadcastInDim S4194304 ![] bcast_S_S4194304
            (id (mulf (constant (F := Ideal) S_ .f32 0x3F000000#32) (Host.log (constant (F := Ideal) S_ .f32 0x40C90FDB#32)))))) i
      = val (x i) (lp i) (mu i) (sd i) := rfl

end Cert.Proof.Mix.Ref

end
-- ==== Proof.Equation.lean ====
/- The kernel's arithmetic at one element equals the reference's, over the extended reals. The kernel
   multiplies by the deviation's reciprocal where the reference divides: the same number unless the
   deviation is zero. The rest is addition and multiplication, commutative and associative on all
   extended reals, and a sign moved through a product. -/
module

public import proofs.«01_k».proof.Proof.Reference

@[expose] public section

noncomputable section

namespace Cert.Proof.Mix

open Cert.KernelIdeal Idealize.ShloMosaic

theorem word_half : Ideal.ofBits .f32 0x3F000000#32 = (((1 : ℝ) / 2 : ℝ) : EReal) := by
  simp [Ideal.ofBits, Ideal.ieee, -EReal.coe_mul]; norm_num

theorem word_neg_half : Ideal.ofBits .f32 0xBF000000#32 = -(((1 : ℝ) / 2 : ℝ) : EReal) := by
  rw [← EReal.coe_neg]
  simp [Ideal.ofBits, Ideal.ieee, -EReal.coe_mul, -EReal.coe_neg]; norm_num

theorem word_two_pi : Ideal.ofBits .f32 0x40C90FDB#32 = (((13176795 : ℝ) / 2097152 : ℝ) : EReal) := by
  simp [Ideal.ofBits, Ideal.ieee, -EReal.coe_mul]; norm_num

/-- Half the logarithm of the reference's 2π is the constant that the kernel names. -/
theorem half_log : Ideal.ofBits .f32 0x3F000000#32 * Ideal.log (Ideal.ofBits .f32 0x40C90FDB#32)
    = (((1 / 2) * Real.log (13176795 / 2097152) : ℝ) : EReal) := by
  have e : Ideal.log (((13176795 : ℝ) / 2097152 : ℝ) : EReal) = ((Real.log (13176795 / 2097152) : ℝ) : EReal) := by
    show (if ((13176795 : ℝ) / 2097152) ≤ 0 then (⊥ : EReal) else _) = _
    rw [if_neg (by norm_num)]
  rw [word_half, word_two_pi, e, ← EReal.coe_mul]

/-- Off zero, a division is a product with the reciprocal. -/
theorem div_eq_mul_recip (d s : EReal) (h : s ≠ 0) : d * Ideal.div 1 s = Ideal.div d s := by
  unfold Ideal.div
  rw [if_neg h, if_neg h, one_mul]

/-- The kernel's element, spelt out. -/
theorem lane_at (x p mu sd : EReal) :
    laneVal (F := Ideal) x (p - Ideal.log sd - (((1 / 2) * Real.log (13176795 / 2097152) : ℝ) : EReal)) mu
        (Ideal.div (Ideal.ofBits .f32 0x3F800000#32) sd)
      = (p - Ideal.log sd - (((1 / 2) * Real.log (13176795 / 2097152) : ℝ) : EReal))
        - (Ideal.ofBits .f32 0x3F000000#32 * ((x - mu) * Ideal.div (Ideal.ofBits .f32 0x3F800000#32) sd))
          * ((x - mu) * Ideal.div (Ideal.ofBits .f32 0x3F800000#32) sd) := rfl

/-- The two elements are equal wherever the deviation is not zero. -/
theorem element_eq (x p mu sd : EReal) (h : sd ≠ 0) :
    laneVal (F := Ideal) x (p - Ideal.log sd - (((1 / 2) * Real.log (13176795 / 2097152) : ℝ) : EReal)) mu
        (Ideal.div (Ideal.ofBits .f32 0x3F800000#32) sd)
      = Ref.val x p mu sd := by
  rw [lane_at, Ref.val, half_log, Ideal.ofBits_one_f32, div_eq_mul_recip _ _ h, word_half, word_neg_half]
  generalize Ideal.div (x - mu) sd = u
  generalize Ideal.log sd = l
  generalize (((1 / 2) * Real.log (13176795 / 2097152) : ℝ) : EReal) = c
  rw [neg_mul, mul_assoc]
  generalize (((1 : ℝ) / 2 : ℝ) : EReal) * (u * u) = q
  show p + -l + -c + -q = p + (-q + -l + -c)
  rw [add_assoc p, add_assoc p, add_comm (-l + -c) (-q), add_assoc (-q)]

/-- The kernel's tables at an entry. -/
theorem tabK_at (p sd : S16.Idx → EReal) (k : S16.Idx) :
    tabK (F := Ideal) p sd k = Ideal.log (p k) - Ideal.log (sd k) - (((1 / 2) * Real.log (13176795 / 2097152) : ℝ) : EReal) := rfl

theorem tabS_at (sd : S16.Idx → EReal) (k : S16.Idx) :
    tabS (F := Ideal) sd k = Ideal.div (Ideal.ofBits .f32 0x3F800000#32) (sd k) := rfl

/-- The whole arrays are equal: indices below sixteen, no deviation zero. -/
theorem result_eq (z x p mu sd) (hz : ∀ i, (z i).toNat < 16) (hs : ∀ k, sd k ≠ (0 : EReal)) (i : S4194304.Idx) :
    ans (F := Ideal) p mu sd z x i
      = Ref.val (x i) (Ref.taken (fun k => Ideal.log (p k)) z i) (Ref.taken mu z i) (Ref.taken sd z i) := by
  rw [Ref.taken_at _ z hz, Ref.taken_at _ z hz, Ref.taken_at _ z hz]
  show laneVal (F := Ideal) (x i) (tabK p sd (at16 (z i))) (mu (at16 (z i))) (tabS sd (at16 (z i))) = _
  rw [tabK_at, tabS_at]
  exact element_eq _ _ _ _ (hs _)

end Cert.Proof.Mix

end
-- ==== Proof.Frames.lean ====
/- The runs in the form of the claims: the kernel on floats' bits, its idealization and the reference
   over the extended reals.

   The program on bits and its idealization differ in one constant, which the idealization reads by its
   name. Reading that name as the constant's own bits makes them the same program, so one run serves both. -/
module

public import proofs.«01_k».proof.Defs
public import proofs.«01_k».proof.Proof.Equation
public import proofs.«01_k».proof.Proof.Gen.Kernel

@[expose] public section

noncomputable section

namespace Cert.Proof.Mix

open Idealize.ShloMosaic Idealize.SL.Sem

/-- On bits, a named constant is its own word. -/
instance namedBits : Named Bits := ⟨fun _ _ _ w => w⟩

theorem kernel_frame : Cert.quiescent_Kernel := by
  intro m g hpre
  have hok : PreOK (F := Bits) m := fun d i => range_of_pre _ _ _ _ _ (hpre d) i
  exact (θ_run (Cert.Kernel.defs (F := Bits)) _ _).mono
    (fun _ h => ⟨fun c => (h.1 c).2, h.2⟩) (run_main (F := Bits) m g hok)

/-- The idealized kernel's run, its range of indices given. -/
theorem ideal_frame (m g) (hok : PreOK (F := Ideal) m) :
    θ_run (Cert.KernelIdeal.defs (F := Ideal)) (Cert.KernelIdeal.threads (F := Ideal)) ⟨m, fun _ => 0, g⟩ (QC m) :=
  run_main (F := Ideal) m g hok

theorem kernelIdeal_frame : Cert.quiescent_KernelIdeal := by
  intro m g hpre
  exact (θ_run (Cert.KernelIdeal.defs (F := Ideal)) _ _).mono (fun _ h => ⟨fun c => (h.1 c).2, h.2⟩)
    (ideal_frame m g fun d i => range_of_pre _ _ _ _ _ (hpre d) i)

theorem kernelIdeal_frame_sd : Cert.quiescent_KernelIdeal_pre_z_in_range_sd_nonzero := by
  intro m g hpre
  exact (θ_run (Cert.KernelIdeal.defs (F := Ideal)) _ _).mono (fun _ h => ⟨fun c => (h.1 c).2, h.2⟩)
    (ideal_frame m g fun d i => (range_of_pre_sd _ _ _ _ _ (hpre d)).1 i)

/-- The reference's run, with its result's composed term; it declares no semaphore. -/
theorem reference_run (m g) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_v16) = Cert.ReferenceIdeal.Value.res_main_v16 m c
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run (Cert.ReferenceIdeal.defs (F := Ideal)) _ _).mono (fun r h => ⟨h, sem_eq_zero_of_no_sems (by decide) r.2⟩)
    (Cert.ReferenceIdeal.Value.run m g)

theorem reference_frame : Cert.quiescent_ReferenceIdeal := fun m g _ =>
  (θ_run (Cert.ReferenceIdeal.defs (F := Ideal)) _ _).mono (fun _ h => ⟨fun c => (h.1 c).2, h.2⟩) (reference_run m g)

theorem reference_frame_sd : Cert.quiescent_ReferenceIdeal_pre_z_in_range_sd_nonzero := fun m g _ =>
  reference_frame m g trivial

/-- The constant's name stands for half the logarithm of 2π as a 32-bit float writes it. -/
theorem constant_named : Cert.preserves_Kernel_KernelIdeal :=
  IdealRules.named_const.statement Cert.KernelIdeal.κ "half_log_2pi" .f32 0x3F6B3F8E#32
    (((1 / 2) * (Real.log (13176795 / 2097152)) : ℝ) : EReal) rfl

/-- From the same arguments both programs end with the same array. -/
theorem values_equal : Cert.algebraic_KernelIdeal_ReferenceIdeal_pre_z_in_range_sd_nonzero := by
  intro m g m' g' hpre hagree
  refine ⟨fun c => outVal (F := Ideal) m c, ?_, ?_⟩
  · exact (θ_run (Cert.KernelIdeal.defs (F := Ideal)) _ _).mono (fun _ h => h.1)
      (ideal_frame m g fun d i => (range_of_pre_sd _ _ _ _ _ (hpre d)).1 i)
  · refine (θ_run (Cert.ReferenceIdeal.defs (F := Ideal)) _ _).mono (fun _ h c => ⟨((h.1 c).1).trans ?_, (h.1 c).2⟩)
      (reference_run m' g')
    obtain ⟨hz, hs⟩ := range_of_pre_sd _ _ _ _ _ (hpre c)
    obtain ⟨e0, e1, e2, e3, e4⟩ := hagree c
    rw [Ref.out_eq, e0, e1, e2, e3, e4]
    exact funext fun i => (Ref.parts_at _ _ _ _ i).trans (result_eq _ _ _ _ _ hz hs i).symm

end Cert.Proof.Mix

end
-- ==== Proof.lean ====
/- The certificate: the runs of the three programs, the named constant, and the equality of the
   kernel's result with the reference's. The proofs are in Proof/; Frames.lean states them in the
   form of the claims. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_z_in_range
public import proofs.«01_k».proof.Proof.Gen.Pre_z_in_range_sd_nonzero
public import proofs.«01_k».proof.Proof.Frames

@[expose] public section

noncomputable section

namespace Cert.Proof

theorem claim : Cert.Claim :=
  ⟨Cert.Kernel.Gen.facts, Cert.KernelIdeal.Gen.facts, Cert.ReferenceIdeal.Gen.facts, Cert.Pre_z_in_range.Gen.facts,
    Cert.Pre_z_in_range_sd_nonzero.Gen.facts, Mix.kernel_frame, Mix.kernelIdeal_frame, Mix.kernelIdeal_frame_sd,
    Mix.reference_frame, Mix.reference_frame_sd, Mix.constant_named, Mix.values_equal⟩

end Cert.Proof

end
